-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x128x128 : Shape := ⟨4, ![8, 256, 128, 128]⟩
abbrev S8x1x128x128 : Shape := ⟨4, ![8, 1, 128, 128]⟩
abbrev S256x256x3x3 : Shape := ⟨4, ![256, 256, 3, 3]⟩
abbrev S256 : Shape := ⟨1, ![256]⟩
abbrev S256x1x3x3 : Shape := ⟨4, ![256, 1, 3, 3]⟩
abbrev S256x256x1x1 : Shape := ⟨4, ![256, 256, 1, 1]⟩
abbrev S3x3x256x256 : Shape := ⟨4, ![3, 3, 256, 256]⟩
abbrev S3x768x256 : Shape := ⟨3, ![3, 768, 256]⟩
abbrev S256x3x3 : Shape := ⟨3, ![256, 3, 3]⟩
abbrev S3x3x256 : Shape := ⟨3, ![3, 3, 256]⟩
abbrev S9x256 : Shape := ⟨2, ![9, 256]⟩
abbrev S256x256 : Shape := ⟨2, ![256, 256]⟩
abbrev S1x256 : Shape := ⟨2, ![1, 256]⟩
abbrev S4x256 : Shape := ⟨2, ![4, 256]⟩
abbrev S8x256x16384 : Shape := ⟨3, ![8, 256, 16384]⟩
abbrev S8x16384x1 : Shape := ⟨3, ![8, 16384, 1]⟩
abbrev S1x4096x1 : Shape := ⟨3, ![1, 4096, 1]⟩
abbrev S1x256x4096 : Shape := ⟨3, ![1, 256, 4096]⟩
abbrev S256x5632 : Shape := ⟨2, ![256, 5632]⟩
abbrev S44x144x256 : Shape := ⟨3, ![44, 144, 256]⟩
abbrev S40x144x256 : Shape := ⟨3, ![40, 144, 256]⟩
abbrev S_ : Shape := ⟨0, ![]⟩
abbrev S256x768 : Shape := ⟨2, ![256, 768]⟩
abbrev S256x4864 : Shape := ⟨2, ![256, 4864]⟩
abbrev S1x256x4864 : Shape := ⟨3, ![1, 256, 4864]⟩
abbrev S1x256x5632 : Shape := ⟨3, ![1, 256, 5632]⟩
abbrev S5632x256 : Shape := ⟨2, ![5632, 256]⟩
abbrev S44x128x256 : Shape := ⟨3, ![44, 128, 256]⟩
abbrev S44x2x256 : Shape := ⟨3, ![44, 2, 256]⟩
abbrev S44x6x256 : Shape := ⟨3, ![44, 6, 256]⟩
abbrev S40x136x256 : Shape := ⟨3, ![40, 136, 256]⟩
abbrev S5440x256 : Shape := ⟨2, ![5440, 256]⟩
abbrev S5440x768 : Shape := ⟨2, ![5440, 768]⟩
abbrev S1x768x256 : Shape := ⟨3, ![1, 768, 256]⟩
abbrev S768x256 : Shape := ⟨2, ![768, 256]⟩
abbrev S40x128x256 : Shape := ⟨3, ![40, 128, 256]⟩
abbrev S5120x256 : Shape := ⟨2, ![5120, 256]⟩
abbrev S5120x1 : Shape := ⟨2, ![5120, 1]⟩
abbrev S40x4x256 : Shape := ⟨3, ![40, 4, 256]⟩
abbrev S32x136x256 : Shape := ⟨3, ![32, 136, 256]⟩
abbrev S4352x256 : Shape := ⟨2, ![4352, 256]⟩
abbrev S4352x768 : Shape := ⟨2, ![4352, 768]⟩
abbrev S32x128x256 : Shape := ⟨3, ![32, 128, 256]⟩
abbrev S4096x256 : Shape := ⟨2, ![4096, 256]⟩
abbrev S4096x1 : Shape := ⟨2, ![4096, 1]⟩
abbrev S256x4096 : Shape := ⟨2, ![256, 4096]⟩

abbrev nBuf : Space → Nat
  | .hbm => 28
  | .vmem => 12
  | .smem => 0
  | _ => 0

abbrev bufTy : (tb : Table) → Fin (tcTables nBuf tb) → BufTy
  | .hbm, ⟨0, _⟩ => ⟨S8x256x128x128, .f32⟩
  | .hbm, ⟨1, _⟩ => ⟨S8x1x128x128, .f32⟩
  | .hbm, ⟨2, _⟩ => ⟨S256x256x3x3, .f32⟩
  | .hbm, ⟨3, _⟩ => ⟨S256, .f32⟩
  | .hbm, ⟨4, _⟩ => ⟨S256x256x3x3, .f32⟩
  | .hbm, ⟨5, _⟩ => ⟨S256, .f32⟩
  | .hbm, ⟨6, _⟩ => ⟨S256x1x3x3, .f32⟩
  | .hbm, ⟨7, _⟩ => ⟨S256, .f32⟩
  | .hbm, ⟨8, _⟩ => ⟨S256x256x1x1, .f32⟩
  | .hbm, ⟨9, _⟩ => ⟨S256, .f32⟩
  | .hbm, ⟨10, _⟩ => ⟨S3x3x256x256, .f32⟩
  | .hbm, ⟨11, _⟩ => ⟨S3x768x256, .f32⟩
  | .hbm, ⟨12, _⟩ => ⟨S3x3x256x256, .f32⟩
  | .hbm, ⟨13, _⟩ => ⟨S3x768x256, .f32⟩
  | .hbm, ⟨14, _⟩ => ⟨S256x3x3, .f32⟩
  | .hbm, ⟨15, _⟩ => ⟨S3x3x256, .f32⟩
  | .hbm, ⟨16, _⟩ => ⟨S9x256, .f32⟩
  | .hbm, ⟨17, _⟩ => ⟨S256x256, .f32⟩
  | .hbm, ⟨18, _⟩ => ⟨S256x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S4x256, .f32⟩
  | .hbm, ⟨24, _⟩ => ⟨S8x256x16384, .f32⟩
  | .hbm, ⟨25, _⟩ => ⟨S8x16384x1, .f32⟩
  | .hbm, ⟨26, _⟩ => ⟨S8x256x16384, .f32⟩
  | .hbm, ⟨27, _⟩ => ⟨S8x256x128x128, .f32⟩
  | .local _ .vmem, ⟨0, _⟩ => ⟨S1x4096x1, .f32⟩
  | .local _ .vmem, ⟨1, _⟩ => ⟨S1x4096x1, .f32⟩
  | .local _ .vmem, ⟨2, _⟩ => ⟨S3x768x256, .f32⟩
  | .local _ .vmem, ⟨3, _⟩ => ⟨S3x768x256, .f32⟩
  | .local _ .vmem, ⟨4, _⟩ => ⟨S9x256, .f32⟩
  | .local _ .vmem, ⟨5, _⟩ => ⟨S256x256, .f32⟩
  | .local _ .vmem, ⟨6, _⟩ => ⟨S4x256, .f32⟩
  | .local _ .vmem, ⟨7, _⟩ => ⟨S1x256x4096, .f32⟩
  | .local _ .vmem, ⟨8, _⟩ => ⟨S1x256x4096, .f32⟩
  | .local _ .vmem, ⟨9, _⟩ => ⟨S256x5632, .f32⟩
  | .local _ .vmem, ⟨10, _⟩ => ⟨S44x144x256, .f32⟩
  | .local _ .vmem, ⟨11, _⟩ => ⟨S40x144x256, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let arg0 : BitVec 32 := BitVec.ofNat 32 (i 0).val
  let c0_i32_124 : BitVec 32 := 0#32
  let c0_i32_125 : BitVec 32 := 0#32
  ![arg0.toNat, 0, 0]
def k0_cond2 (i : grid0.Coords) : BitVec 1 :=
  let arg1 : BitVec 32 := BitVec.ofNat 32 (i 1).val
  let c3_i32 : BitVec 32 := 3#32
  let v4 : BitVec 1 := Scalar.cmpi .eq arg1 c3_i32
  let v5 : BitVec 32 := Scalar.extui v4
  let c0_i32_1 : BitVec 32 := 0#32
  let v6 : BitVec 1 := Scalar.cmpi .ne v5 c0_i32_1
  v6

def k0_off2 (i : grid0.Coords) : Fin 3 → Nat :=
  let arg0 : BitVec 32 := BitVec.ofNat 32 (i 0).val
  let c0_i32_124 : BitVec 32 := 0#32
  let c11520_i32 : BitVec 32 := 11520#32
  ![arg0.toNat, 0, 11520]
def k0_cond3 (i : grid0.Coords) : BitVec 1 :=
  let arg1 : BitVec 32 := BitVec.ofNat 32 (i 1).val
  let c0_i32_2 : BitVec 32 := 0#32
  let v7 : BitVec 1 := Scalar.cmpi .sgt arg1 c0_i32_2
  let c3_i32_3 : BitVec 32 := 3#32
  let v8 : BitVec 1 := Scalar.cmpi .slt arg1 c3_i32_3
  let v9 : BitVec 1 := Scalar.andi v7 v8
  let v10 : BitVec 32 := Scalar.extui v9
  let c0_i32_4 : BitVec 32 := 0#32
  let v11 : BitVec 1 := Scalar.cmpi .ne v10 c0_i32_4
  v11

def k0_off3 (i : grid0.Coords) : Fin 3 → Nat :=
  let arg0 : BitVec 32 := BitVec.ofNat 32 (i 0).val
  let c0_i32_123 : BitVec 32 := 0#32
  let arg1 : BitVec 32 := BitVec.ofNat 32 (i 1).val
  let c32_i32 : BitVec 32 := 32#32
  let v0 : BitVec 32 := Scalar.muli arg1 c32_i32
  let c6_i32 : BitVec 32 := 6#32
  let v245 : BitVec 32 := Scalar.subi v0 c6_i32
  let c128_i32_120 : BitVec 32 := 128#32
  let v246 : BitVec 32 := Scalar.muli v245 c128_i32_120
  ![arg0.toNat, 0, v246.toNat]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S9x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x256x128x128 : Shape := ⟨4, ![8, 256, 128, 128]⟩
abbrev S8x1x128x128 : Shape := ⟨4, ![8, 1, 128, 128]⟩
abbrev S256x256x3x3 : Shape := ⟨4, ![256, 256, 3, 3]⟩
abbrev S256 : Shape := ⟨1, ![256]⟩
abbrev S256x1x3x3 : Shape := ⟨4, ![256, 1, 3, 3]⟩
abbrev S256x256x1x1 : Shape := ⟨4, ![256, 256, 1, 1]⟩
abbrev S_ : Shape := ⟨0, ![]⟩
abbrev S8x256x132x132 : Shape := ⟨4, ![8, 256, 132, 132]⟩
abbrev S256x256 : Shape := ⟨2, ![256, 256]⟩
abbrev S8x128x128x256 : Shape := ⟨4, ![8, 128, 128, 256]⟩
abbrev S1x256x1x1 : Shape := ⟨4, ![1, 256, 1, 1]⟩
abbrev S8x256x136x136 : Shape := ⟨4, ![8, 256, 136, 136]⟩
abbrev S8x256x130x130 : Shape := ⟨4, ![8, 256, 130, 130]⟩
abbrev S256x1x1x1 : Shape := ⟨4, ![256, 1, 1, 1]⟩

abbrev nBuf : Space → Nat
  | .hbm => 224
  | .vmem => 0
  | .smem => 0
  | _ => 0

abbrev hbmTy0_0 (i : Nat) : BufTy := match i % 128 with
  | 0 => ⟨S8x256x128x128, .f32⟩
  | 1 => ⟨S8x1x128x128, .f32⟩
  | 2 => ⟨S256x256x3x3, .f32⟩
  | 3 => ⟨S256, .f32⟩
  | 4 => ⟨S256x256x3x3, .f32⟩
  | 5 => ⟨S256, .f32⟩
  | 6 => ⟨S256x1x3x3, .f32⟩
  | 7 => ⟨S256, .f32⟩
  | 8 => ⟨S256x256x1x1, .f32⟩
  | 9 => ⟨S256, .f32⟩
  | 10 => ⟨S_, .i32⟩
  | 11 => ⟨S_, .f32⟩
  | 12 => ⟨S8x256x132x132, .f32⟩
  | 13 => ⟨S8x256x128x128, .f32⟩
  | 14 => ⟨S256x256x1x1, .f32⟩
  | 15 => ⟨S256x256, .f32⟩
  | 16 => ⟨S8x128x128x256, .f32⟩
  | 17 => ⟨S8x256x128x128, .f32⟩
  | 18 => ⟨S8x256x128x128, .f32⟩
  | 19 => ⟨S256x256x1x1, .f32⟩
  | 20 => ⟨S256x256, .f32⟩
  | 21 => ⟨S8x128x128x256, .f32⟩
  | 22 => ⟨S8x256x128x128, .f32⟩
  | 23 => ⟨S8x256x128x128, .f32⟩
  | 24 => ⟨S8x256x128x128, .f32⟩
  | 25 => ⟨S256x256x1x1, .f32⟩
  | 26 => ⟨S256x256, .f32⟩
  | 27 => ⟨S8x128x128x256, .f32⟩
  | 28 => ⟨S8x256x128x128, .f32⟩
  | 29 => ⟨S8x256x128x128, .f32⟩
  | 30 => ⟨S8x256x128x128, .f32⟩
  | 31 => ⟨S256x256x1x1, .f32⟩
  | 32 => ⟨S256x256, .f32⟩
  | 33 => ⟨S8x128x128x256, .f32⟩
  | 34 => ⟨S8x256x128x128, .f32⟩
  | 35 => ⟨S8x256x128x128, .f32⟩
  | 36 => ⟨S8x256x128x128, .f32⟩
  | 37 => ⟨S256x256x1x1, .f32⟩
  | 38 => ⟨S256x256, .f32⟩
  | 39 => ⟨S8x128x128x256, .f32⟩
  | 40 => ⟨S8x256x128x128, .f32⟩
  | 41 => ⟨S8x256x128x128, .f32⟩
  | 42 => ⟨S8x256x128x128, .f32⟩
  | 43 => ⟨S256x256x1x1, .f32⟩
  | 44 => ⟨S256x256, .f32⟩
  | 45 => ⟨S8x128x128x256, .f32⟩
  | 46 => ⟨S8x256x128x128, .f32⟩
  | 47 => ⟨S8x256x128x128, .f32⟩
  | 48 => ⟨S8x256x128x128, .f32⟩
  | 49 => ⟨S256x256x1x1, .f32⟩
  | 50 => ⟨S256x256, .f32⟩
  | 51 => ⟨S8x128x128x256, .f32⟩
  | 52 => ⟨S8x256x128x128, .f32⟩
  | 53 => ⟨S8x256x128x128, .f32⟩
  | 54 => ⟨S8x256x128x128, .f32⟩
  | 55 => ⟨S256x256x1x1, .f32⟩
  | 56 => ⟨S256x256, .f32⟩
  | 57 => ⟨S8x128x128x256, .f32⟩
  | 58 => ⟨S8x256x128x128, .f32⟩
  | 59 => ⟨S8x256x128x128, .f32⟩
  | 60 => ⟨S8x256x128x128, .f32⟩
  | 61 => ⟨S256x256x1x1, .f32⟩
  | 62 => ⟨S256x256, .f32⟩
  | 63 => ⟨S8x128x128x256, .f32⟩
  | 64 => ⟨S8x256x128x128, .f32⟩
  | 65 => ⟨S8x256x128x128, .f32⟩
  | 66 => ⟨S1x256x1x1, .f32⟩
  | 67 => ⟨S8x256x128x128, .f32⟩
  | 68 => ⟨S8x256x128x128, .f32⟩
  | 69 => ⟨S8x256x128x128, .f32⟩
  | 70 => ⟨S_, .f32⟩
  | 71 => ⟨S8x256x128x128, .f32⟩
  | 72 => ⟨S8x256x128x128, .f32⟩
  | 73 => ⟨S_, .i32⟩
  | 74 => ⟨S_, .f32⟩
  | 75 => ⟨S8x256x136x136, .f32⟩
  | 76 => ⟨S8x256x128x128, .f32⟩
  | 77 => ⟨S256x256x1x1, .f32⟩
  | 78 => ⟨S256x256, .f32⟩
  | 79 => ⟨S8x128x128x256, .f32⟩
  | 80 => ⟨S8x256x128x128, .f32⟩
  | 81 => ⟨S8x256x128x128, .f32⟩
  | 82 => ⟨S256x256x1x1, .f32⟩
  | 83 => ⟨S256x256, .f32⟩
  | 84 => ⟨S8x128x128x256, .f32⟩
  | 85 => ⟨S8x256x128x128, .f32⟩
  | 86 => ⟨S8x256x128x128, .f32⟩
  | 87 => ⟨S8x256x128x128, .f32⟩
  | 88 => ⟨S256x256x1x1, .f32⟩
  | 89 => ⟨S256x256, .f32⟩
  | 90 => ⟨S8x128x128x256, .f32⟩
  | 91 => ⟨S8x256x128x128, .f32⟩
  | 92 => ⟨S8x256x128x128, .f32⟩
  | 93 => ⟨S8x256x128x128, .f32⟩
  | 94 => ⟨S256x256x1x1, .f32⟩
  | 95 => ⟨S256x256, .f32⟩
  | 96 => ⟨S8x128x128x256, .f32⟩
  | 97 => ⟨S8x256x128x128, .f32⟩
  | 98 => ⟨S8x256x128x128, .f32⟩
  | 99 => ⟨S8x256x128x128, .f32⟩
  | 100 => ⟨S256x256x1x1, .f32⟩
  | 101 => ⟨S256x256, .f32⟩
  | 102 => ⟨S8x128x128x256, .f32⟩
  | 103 => ⟨S8x256x128x128, .f32⟩
  | 104 => ⟨S8x256x128x128, .f32⟩
  | 105 => ⟨S8x256x128x128, .f32⟩
  | 106 => ⟨S256x256x1x1, .f32⟩
  | 107 => ⟨S256x256, .f32⟩
  | 108 => ⟨S8x128x128x256, .f32⟩
  | 109 => ⟨S8x256x128x128, .f32⟩
  | 110 => ⟨S8x256x128x128, .f32⟩
  | 111 => ⟨S8x256x128x128, .f32⟩
  | 112 => ⟨S256x256x1x1, .f32⟩
  | 113 => ⟨S256x256, .f32⟩
  | 114 => ⟨S8x128x128x256, .f32⟩
  | 115 => ⟨S8x256x128x128, .f32⟩
  | 116 => ⟨S8x256x128x128, .f32⟩
  | 117 => ⟨S8x256x128x128, .f32⟩
  | 118 => ⟨S256x256x1x1, .f32⟩
  | 119 => ⟨S256x256, .f32⟩
  | 120 => ⟨S8x128x128x256, .f32⟩
  | 121 => ⟨S8x256x128x128, .f32⟩
  | 122 => ⟨S8x256x128x128, .f32⟩
  | 123 => ⟨S8x256x128x128, .f32⟩
  | 124 => ⟨S256x256x1x1, .f32⟩
  | 125 => ⟨S256x256, .f32⟩
  | 126 => ⟨S8x128x128x256, .f32⟩
  | 127 => ⟨S8x256x128x128, .f32⟩
  | _ => ⟨S8x256x128x128, .f32⟩

abbrev hbmTy0_1 (i : Nat) : BufTy := match i % 128 with
  | 0 => ⟨S8x256x128x128, .f32⟩
  | 1 => ⟨S1x256x1x1, .f32⟩
  | 2 => ⟨S8x256x128x128, .f32⟩
  | 3 => ⟨S8x256x128x128, .f32⟩
  | 4 => ⟨S8x256x128x128, .f32⟩
  | 5 => ⟨S_, .f32⟩
  | 6 => ⟨S8x256x128x128, .f32⟩
  | 7 => ⟨S8x256x128x128, .f32⟩
  | 8 => ⟨S_, .i32⟩
  | 9 => ⟨S_, .f32⟩
  | 10 => ⟨S8x256x130x130, .f32⟩
  | 11 => ⟨S8x256x128x128, .f32⟩
  | 12 => ⟨S256x1x1x1, .f32⟩
  | 13 => ⟨S256, .f32⟩
  | 14 => ⟨S1x256x1x1, .f32⟩
  | 15 => ⟨S8x256x128x128, .f32⟩
  | 16 => ⟨S8x256x128x128, .f32⟩
  | 17 => ⟨S8x256x128x128, .f32⟩
  | 18 => ⟨S256x1x1x1, .f32⟩
  | 19 => ⟨S256, .f32⟩
  | 20 => ⟨S1x256x1x1, .f32⟩
  | 21 => ⟨S8x256x128x128, .f32⟩
  | 22 => ⟨S8x256x128x128, .f32⟩
  | 23 => ⟨S8x256x128x128, .f32⟩
  | 24 => ⟨S8x256x128x128, .f32⟩
  | 25 => ⟨S256x1x1x1, .f32⟩
  | 26 => ⟨S256, .f32⟩
  | 27 => ⟨S1x256x1x1, .f32⟩
  | 28 => ⟨S8x256x128x128, .f32⟩
  | 29 => ⟨S8x256x128x128, .f32⟩
  | 30 => ⟨S8x256x128x128, .f32⟩
  | 31 => ⟨S8x256x128x128, .f32⟩
  | 32 => ⟨S256x1x1x1, .f32⟩
  | 33 => ⟨S256, .f32⟩
  | 34 => ⟨S1x256x1x1, .f32⟩
  | 35 => ⟨S8x256x128x128, .f32⟩
  | 36 => ⟨S8x256x128x128, .f32⟩
  | 37 => ⟨S8x256x128x128, .f32⟩
  | 38 => ⟨S8x256x128x128, .f32⟩
  | 39 => ⟨S256x1x1x1, .f32⟩
  | 40 => ⟨S256, .f32⟩
  | 41 => ⟨S1x256x1x1, .f32⟩
  | 42 => ⟨S8x256x128x128, .f32⟩
  | 43 => ⟨S8x256x128x128, .f32⟩
  | 44 => ⟨S8x256x128x128, .f32⟩
  | 45 => ⟨S8x256x128x128, .f32⟩
  | 46 => ⟨S256x1x1x1, .f32⟩
  | 47 => ⟨S256, .f32⟩
  | 48 => ⟨S1x256x1x1, .f32⟩
  | 49 => ⟨S8x256x128x128, .f32⟩
  | 50 => ⟨S8x256x128x128, .f32⟩
  | 51 => ⟨S8x256x128x128, .f32⟩
  | 52 => ⟨S8x256x128x128, .f32⟩
  | 53 => ⟨S256x1x1x1, .f32⟩
  | 54 => ⟨S256, .f32⟩
  | 55 => ⟨S1x256x1x1, .f32⟩
  | 56 => ⟨S8x256x128x128, .f32⟩
  | 57 => ⟨S8x256x128x128, .f32⟩
  | 58 => ⟨S8x256x128x128, .f32⟩
  | 59 => ⟨S8x256x128x128, .f32⟩
  | 60 => ⟨S256x1x1x1, .f32⟩
  | 61 => ⟨S256, .f32⟩
  | 62 => ⟨S1x256x1x1, .f32⟩
  | 63 => ⟨S8x256x128x128, .f32⟩
  | 64 => ⟨S8x256x128x128, .f32⟩
  | 65 => ⟨S8x256x128x128, .f32⟩
  | 66 => ⟨S8x256x128x128, .f32⟩
  | 67 => ⟨S256x1x1x1, .f32⟩
  | 68 => ⟨S256, .f32⟩
  | 69 => ⟨S1x256x1x1, .f32⟩
  | 70 => ⟨S8x256x128x128, .f32⟩
  | 71 => ⟨S8x256x128x128, .f32⟩
  | 72 => ⟨S8x256x128x128, .f32⟩
  | 73 => ⟨S1x256x1x1, .f32⟩
  | 74 => ⟨S8x256x128x128, .f32⟩
  | 75 => ⟨S8x256x128x128, .f32⟩
  | 76 => ⟨S_, .f32⟩
  | 77 => ⟨S8x256x128x128, .f32⟩
  | 78 => ⟨S8x256x128x128, .f32⟩
  | 79 => ⟨S_, .i32⟩
  | 80 => ⟨S_, .f32⟩
  | 81 => ⟨S8x256x128x128, .f32⟩
  | 82 => ⟨S256x256, .f32⟩
  | 83 => ⟨S8x128x128x256, .f32⟩
  | 84 => ⟨S8x256x128x128, .f32⟩
  | 85 => ⟨S1x256x1x1, .f32⟩
  | 86 => ⟨S8x256x128x128, .f32⟩
  | 87 => ⟨S8x256x128x128, .f32⟩
  | 88 => ⟨S_, .f32⟩
  | 89 => ⟨S8x256x128x128, .f32⟩
  | 90 => ⟨S8x256x128x128, .f32⟩
  | 91 => ⟨S_, .f32⟩
  | 92 => ⟨S8x1x128x128, .f32⟩
  | 93 => ⟨S8x1x128x128, .i1⟩
  | 94 => ⟨S8x256x128x128, .i1⟩
  | 95 => ⟨S8x256x128x128, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_call1_cst : Ref sig .tc := ⟨.hbm, 70, rfl⟩
abbrev main_call1_v0 : Ref sig .tc := ⟨.hbm, 71, rfl⟩
abbrev main_v58 : Ref sig .tc := ⟨.hbm, 72, rfl⟩
abbrev main_c_0 : Ref sig .tc := ⟨.hbm, 73, rfl⟩
abbrev main_call2_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_call3_cst : Ref sig .tc := ⟨.hbm, 133, rfl⟩
abbrev main_call3_v0 : Ref sig .tc := ⟨.hbm, 134, rfl⟩
abbrev main_v117 : Ref sig .tc := ⟨.hbm, 135, rfl⟩
abbrev main_c_1 : Ref sig .tc := ⟨.hbm, 136, rfl⟩
abbrev main_call4_v0 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_call5_cst : Ref sig .tc := ⟨.hbm, 204, rfl⟩
abbrev main_call5_v0 : Ref sig .tc := ⟨.hbm, 205, rfl⟩
abbrev main_v184 : Ref sig .tc := ⟨.hbm, 206, rfl⟩
abbrev main_c_2 : Ref sig .tc := ⟨.hbm, 207, rfl⟩
abbrev main_call6_v0 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_call7_cst : Ref sig .tc := ⟨.hbm, 216, rfl⟩
abbrev main_call7_v0 : Ref sig .tc := ⟨.hbm, 217, rfl⟩
abbrev main_v192 : Ref sig .tc := ⟨.hbm, 218, rfl⟩
abbrev main_cst : Ref sig .tc := ⟨.hbm, 219, rfl⟩
abbrev main_v193 : Ref sig .tc := ⟨.hbm, 220, rfl⟩
abbrev main_v194 : Ref sig .tc := ⟨.hbm, 221, rfl⟩
abbrev main_call8_v0 : Ref sig .tc := ⟨.hbm, 222, rfl⟩
abbrev main_v195 : Ref sig .tc := ⟨.hbm, 223, rfl⟩

abbrev nD : Nat := 1
abbrev τ : Topo := Topo.v7x

variable {F : FTy → Type} [FloatOps F]
-- ==== Proof.Spec.lean ====
module

public import Idealize.ShloMosaic.Lib.Pointwise

/-!
# The mathematics both programs compute

No program appears here. A picture is a stack of 256 planes of 128 × 128 extended reals. A plane is read at
integer coordinates and is zero outside its extent, which is what padding a convolution with zeros means.
`res` is a residual 3 × 3 convolution with a dilation, `dwise` a per-channel 3 × 3 convolution, `pwise` a
1 × 1 convolution, each followed by the maximum with zero.
-/

@[expose] public section

noncomputable section

namespace Cert.Spec

/-- One plane. -/
abbrev Plane : Type := Fin 128 → Fin 128 → EReal

/-- The plane at integer coordinates, zero outside. -/
def at0 (f : Plane) (h w : ℤ) : EReal :=
  if hh : (0 ≤ h ∧ h < 128) ∧ (0 ≤ w ∧ w < 128) then f ⟨h.toNat, by omega⟩ ⟨w.toNat, by omega⟩ else 0

/-- Inside, it is the plane. -/
theorem at0_in (f : Plane) (h w : Fin 128) (h' w' : ℤ) (eh : h' = h.val) (ew : w' = w.val) : at0 f h' w' = f h w := by
  subst eh ew
  have := h.isLt
  have := w.isLt
  rw [at0, dif_pos ⟨⟨by omega, by omega⟩, by omega, by omega⟩]
  rfl

/-- Outside, it is zero. -/
theorem at0_out (f : Plane) (h w : ℤ) (n : ¬((0 ≤ h ∧ h < 128) ∧ (0 ≤ w ∧ w < 128))) : at0 f h w = 0 := dif_neg n

/-- What one tap of a dense convolution adds: the sum over the input channels of the picture, moved by `(dy, dx)`,
    times the weight of the tap. -/
def tap (X : Fin 256 → Plane) (g : Fin 256 → EReal) (h w : ℤ) : EReal := ∑ c : Fin 256, at0 (X c) h w * g c

/-- The nine taps of a dense 3 × 3 convolution of dilation `d`, added in row order. -/
def conv9 (d : ℤ) (X : Fin 256 → Plane) (g : Fin 3 → Fin 3 → Fin 256 → EReal) (h w : ℤ) : EReal :=
  tap X (g 0 0) (h - d) (w - d) + tap X (g 0 1) (h - d) w + tap X (g 0 2) (h - d) (w + d)
    + tap X (g 1 0) h (w - d) + tap X (g 1 1) h w + tap X (g 1 2) h (w + d)
    + tap X (g 2 0) (h + d) (w - d) + tap X (g 2 1) (h + d) w + tap X (g 2 2) (h + d) (w + d)

/-- The residual convolution: the picture itself, the nine taps and the bias, then the maximum with zero.
    `W o c ky kx` is the weight of input channel `c` in output channel `o` at tap `(ky, kx)`. -/
def res (d : ℤ) (X : Fin 256 → Plane) (W : Fin 256 → Fin 256 → Fin 3 → Fin 3 → EReal) (b : Fin 256 → EReal) (o : Fin 256) : Plane :=
  fun h w => max (X o h w + (conv9 d X (fun ky kx c => W o c ky kx) h.val w.val + b o)) 0

/-- The per-channel 3 × 3 convolution with its bias and the maximum with zero. -/
def dwise (X : Fin 256 → Plane) (W : Fin 256 → Fin 3 → Fin 3 → EReal) (b : Fin 256 → EReal) (c : Fin 256) : Plane :=
  fun h w =>
    let y : ℤ := h.val
    let x : ℤ := w.val
    max (at0 (X c) (y - 1) (x - 1) * W c 0 0 + at0 (X c) (y - 1) x * W c 0 1 + at0 (X c) (y - 1) (x + 1) * W c 0 2
      + at0 (X c) y (x - 1) * W c 1 0 + at0 (X c) y x * W c 1 1 + at0 (X c) y (x + 1) * W c 1 2
      + at0 (X c) (y + 1) (x - 1) * W c 2 0 + at0 (X c) (y + 1) x * W c 2 1 + at0 (X c) (y + 1) (x + 1) * W c 2 2
      + b c) 0

/-- The 1 × 1 convolution with its bias and the maximum with zero. -/
def pwise (X : Fin 256 → Plane) (W : Fin 256 → Fin 256 → EReal) (b : Fin 256 → EReal) (o : Fin 256) : Plane :=
  fun h w => max ((∑ c : Fin 256, X c h w * W o c) + b o) 0

/-- A sum over 768 terms whose first factor is read from three arrays of 256, one after the other, is three sums. -/
theorem sum_three (A B D : Fin 256 → EReal) (g : Fin 768 → EReal) (f : Fin 768 → EReal)
    (h0 : ∀ k : Fin 256, f ⟨k.val, by omega⟩ = A k) (h1 : ∀ k : Fin 256, f ⟨256 + k.val, by omega⟩ = B k)
    (h2 : ∀ k : Fin 256, f ⟨512 + k.val, by omega⟩ = D k) :
    ∑ x : Fin 768, f x * g x = (∑ k : Fin 256, A k * g ⟨k.val, by omega⟩) + (∑ k : Fin 256, B k * g ⟨256 + k.val, by omega⟩)
      + ∑ k : Fin 256, D k * g ⟨512 + k.val, by omega⟩ := by
  have e : ∑ x : Fin 768, f x * g x = ∑ x : Fin (256 + 256 + 256), f x * g x := rfl
  rw [e, Fin.sum_univ_add, Fin.sum_univ_add]
  refine congrArg₂ (· + ·) (congrArg₂ (· + ·) ?_ ?_) ?_
  · exact Finset.sum_congr rfl fun k _ => congrArg (· * _) (h0 k)
  · exact Finset.sum_congr rfl fun k _ => congrArg (· * _) (h1 k)
  · exact Finset.sum_congr rfl fun k _ => congrArg (· * _) (h2 k)

end Cert.Spec
-- ==== Proof.KPay.lean ====
module

public import proofs.«01_k».proof.Proof.Gen.KernelIdeal.Skeleton
public import proofs.«01_k».proof.Proof.Spec
public import Idealize.ShloMosaic.Lib.Pointwise

/-!
# What the kernel's vector computations are worth at an index

Each lemma reads one named computation of the kernel body at an index. Rows of the flattened pictures are written
`r * 128 + w`: picture row `r`, column `w`.
-/

@[expose] public section

set_option maxRecDepth 16384

noncomputable section

namespace Cert.KernelIdeal.Blk

open Idealize.ShloMosaic Idealize.ShloMosaic.TcCoe Idealize.SL.Sem
open Cert.KernelIdeal Cert.KernelIdeal.Gen Cert.Spec

/-- One matrix product of the kernel at an output: three rows of 256 channels against the 768 weights. -/
def row3 (a b d : Fin 256 → EReal) (u : FVec Ideal S1x768x256 .f32) (o : Fin 256) : EReal :=
  (∑ k : Fin 256, a k * u (ix3 0 ⟨k.val, by omega⟩ o)) + (∑ k : Fin 256, b k * u (ix3 0 ⟨256 + k.val, by omega⟩ o))
    + ∑ k : Fin 256, d k * u (ix3 0 ⟨512 + k.val, by omega⟩ o)

/-- A sum over the concatenated channel axis, as the kernel's concatenation reads it. -/
theorem sum_cat (A B D : Fin 256 → EReal) (u : FVec Ideal S1x768x256 .f32) (o : Fin 256) :
    (∑ x : Fin 768, (if h : x.val < 256 then A ⟨x.val, h⟩ else
      if h' : x.val - 256 < 256 then B ⟨x.val - 256, h'⟩ else D ⟨x.val - 256 - 256, by omega⟩) * u (ix3 0 x o)) = row3 A B D u o := by
  refine sum_three A B D (fun x => u (ix3 0 x o)) _ ?_ ?_ ?_
  · intro k; exact dif_pos k.isLt
  · intro k
    dsimp only
    rw [dif_neg (by omega), dif_pos (by have := k.isLt; omega)]
    exact congrArg B (Fin.ext (by show 256 + k.val - 256 = k.val; omega))
  · intro k
    dsimp only
    rw [dif_neg (by omega), dif_neg (by omega)]
    exact congrArg D (Fin.ext (by show 512 + k.val - 256 - 256 = k.val; omega))

/-- The rows of the picture the kernel stages, moved into channel-last order. -/
theorem pay6_at (x : FVec Ideal S256x5632 .f32) (r : Fin 44) (w : Fin 128) (o : Fin 256) :
    k0_pay6 (F := Ideal) x (ix3 r w o) = x (ix2 o ⟨r.val * 128 + w.val, by omega⟩) := by
  pointwise [k0_pay6]

theorem pay4_at (j : S44x2x256.Idx) : k0_pay4 (F := Ideal) j = 0 := by
  pointwise [k0_pay4]

theorem pay5_at (j : S44x6x256.Idx) : k0_pay5 (F := Ideal) j = 0 := by
  pointwise [k0_pay5]

theorem pay2_at (j : S256x768.Idx) : k0_pay2 (F := Ideal) j = 0 := by
  pointwise [k0_pay2]

theorem pay3_at (j : S256x768.Idx) : k0_pay3 (F := Ideal) j = 0 := by
  pointwise [k0_pay3]

theorem pay10_at (j : S40x4x256.Idx) : k0_pay10 (F := Ideal) j = 0 := by
  pointwise [k0_pay10]

theorem pay12_at (j : S40x4x256.Idx) : k0_pay12 (F := Ideal) (k0_pay11 (F := Ideal)) j = 0 := by
  pointwise [k0_pay12, k0_pay11]

theorem pay13_at (x : FVec Ideal S5120x256 .f32) (r : Fin 40) (w : Fin 128) (o : Fin 256) :
    k0_pay13 (F := Ideal) x (ix3 r w o) = x (ix2 ⟨r.val * 128 + w.val, by omega⟩ o) := by
  pointwise [k0_pay13]

/-- Row and column of a flattened position. -/
theorem flat_div (r w : ℕ) (hw : w < 128) : (r * 128 + w) / 128 = r := by omega
theorem flat_mod (r w : ℕ) (hw : w < 128) : (r * 128 + w) % 128 = w := by omega
/-- The same for rows of 136 columns. -/
theorem wide_div (r k : ℕ) (hw : k < 136) : (r * 136 + k) / 136 = r := by omega
theorem wide_mod (r k : ℕ) (hw : k < 136) : (r * 136 + k) % 136 = k := by omega

/-- The first residual convolution at an output: the centre, three matrix products and the bias. -/
theorem pay8_at (a b d : FVec Ideal S40x136x256 .f32) (u v w : FVec Ideal S1x768x256 .f32) (e : FVec Ideal S40x128x256 .f32)
    (f : FVec Ideal S1x256 .f32) (r : Fin 40) (p : Fin 128) (o : Fin 256) :
    k0_pay8 (F := Ideal) (k0_pay7 a) b d u v w e f (ix2 ⟨r.val * 128 + p.val, by omega⟩ o)
      = max (e (ix3 r p o)
          + (row3 (fun k => a (ix3 r ⟨p.val, by omega⟩ k)) (fun k => b (ix3 r ⟨p.val, by omega⟩ k)) (fun k => d (ix3 r ⟨p.val, by omega⟩ k)) u o
            + row3 (fun k => a (ix3 r ⟨2 + p.val, by omega⟩ k)) (fun k => b (ix3 r ⟨2 + p.val, by omega⟩ k)) (fun k => d (ix3 r ⟨2 + p.val, by omega⟩ k)) v o
            + row3 (fun k => a (ix3 r ⟨4 + p.val, by omega⟩ k)) (fun k => b (ix3 r ⟨4 + p.val, by omega⟩ k)) (fun k => d (ix3 r ⟨4 + p.val, by omega⟩ k)) w o)
          + f (ix2 0 o)) 0 := by
  have hp := p.isLt
  pointwise [k0_pay8, k0_pay7]
  simp only [flat_div _ _ hp, flat_mod _ _ hp, wide_div _ _ (show p.val < 136 by omega), wide_mod _ _ (show p.val < 136 by omega),
    wide_div _ _ (show 2 + p.val < 136 by omega), wide_mod _ _ (show 2 + p.val < 136 by omega),
    wide_div _ _ (show 4 + p.val < 136 by omega), wide_mod _ _ (show 4 + p.val < 136 by omega)]
  refine congrArg₂ max ?_ rfl
  refine congrArg₂ (· + ·) (congrArg₂ (· + ·) rfl (congrArg₂ (· + ·) (congrArg₂ (· + ·) ?_ ?_) ?_)) rfl
  · exact sum_cat (fun k => a (ix3 r ⟨p.val, by omega⟩ k)) (fun k => b (ix3 r ⟨p.val, by omega⟩ k)) (fun k => d (ix3 r ⟨p.val, by omega⟩ k)) u o
  · exact sum_cat (fun k => a (ix3 r ⟨2 + p.val, by omega⟩ k)) (fun k => b (ix3 r ⟨2 + p.val, by omega⟩ k)) (fun k => d (ix3 r ⟨2 + p.val, by omega⟩ k)) v o
  · exact sum_cat (fun k => a (ix3 r ⟨4 + p.val, by omega⟩ k)) (fun k => b (ix3 r ⟨4 + p.val, by omega⟩ k)) (fun k => d (ix3 r ⟨4 + p.val, by omega⟩ k)) w o

/-- The second residual convolution at an output. -/
theorem pay17_at (a b d : FVec Ideal S32x136x256 .f32) (u v w : FVec Ideal S1x768x256 .f32) (e : FVec Ideal S32x128x256 .f32)
    (f : FVec Ideal S1x256 .f32) (r : Fin 32) (p : Fin 128) (o : Fin 256) :
    k0_pay17 (F := Ideal) (k0_pay15 a b d u v) (k0_pay16 a b d w) e f (ix2 ⟨r.val * 128 + p.val, by omega⟩ o)
      = max (e (ix3 r p o)
          + (row3 (fun k => a (ix3 r ⟨p.val, by omega⟩ k)) (fun k => b (ix3 r ⟨p.val, by omega⟩ k)) (fun k => d (ix3 r ⟨p.val, by omega⟩ k)) u o
            + row3 (fun k => a (ix3 r ⟨4 + p.val, by omega⟩ k)) (fun k => b (ix3 r ⟨4 + p.val, by omega⟩ k)) (fun k => d (ix3 r ⟨4 + p.val, by omega⟩ k)) v o
            + row3 (fun k => a (ix3 r ⟨8 + p.val, by omega⟩ k)) (fun k => b (ix3 r ⟨8 + p.val, by omega⟩ k)) (fun k => d (ix3 r ⟨8 + p.val, by omega⟩ k)) w o)
          + f (ix2 0 o)) 0 := by
  have hp := p.isLt
  pointwise [k0_pay17, k0_pay15, k0_pay16, k0_pay14]
  simp only [flat_div _ _ hp, flat_mod _ _ hp, wide_div _ _ (show p.val < 136 by omega), wide_mod _ _ (show p.val < 136 by omega),
    wide_div _ _ (show 4 + p.val < 136 by omega), wide_mod _ _ (show 4 + p.val < 136 by omega),
    wide_div _ _ (show 8 + p.val < 136 by omega), wide_mod _ _ (show 8 + p.val < 136 by omega)]
  refine congrArg₂ max ?_ rfl
  refine congrArg₂ (· + ·) (congrArg₂ (· + ·) rfl (congrArg₂ (· + ·) (congrArg₂ (· + ·) ?_ ?_) ?_)) rfl
  · exact sum_cat (fun k => a (ix3 r ⟨p.val, by omega⟩ k)) (fun k => b (ix3 r ⟨p.val, by omega⟩ k)) (fun k => d (ix3 r ⟨p.val, by omega⟩ k)) u o
  · exact sum_cat (fun k => a (ix3 r ⟨4 + p.val, by omega⟩ k)) (fun k => b (ix3 r ⟨4 + p.val, by omega⟩ k)) (fun k => d (ix3 r ⟨4 + p.val, by omega⟩ k)) v o
  · exact sum_cat (fun k => a (ix3 r ⟨8 + p.val, by omega⟩ k)) (fun k => b (ix3 r ⟨8 + p.val, by omega⟩ k)) (fun k => d (ix3 r ⟨8 + p.val, by omega⟩ k)) w o

/-- The per-channel convolution at an output, before the maximum with zero. The nine weights are given as they are
    loaded: a column of the filter after another. -/
theorem pay22_at (a b d : FVec Ideal S32x136x256 .f32) (w0 w1 w2 w3 w4 w5 w6 w7 w8 f : FVec Ideal S1x256 .f32)
    (r : Fin 32) (p : Fin 128) (o : Fin 256) :
    k0_pay22 (F := Ideal) (k0_pay18 a) (k0_pay19 b) (k0_pay20 d) (k0_pay21 a b d w0 w3 w6) w1 w4 w7 w2 w5 w8 f
        (ix2 ⟨r.val * 128 + p.val, by omega⟩ o)
      = (a (ix3 r ⟨1 + p.val, by omega⟩ o) * w0 (ix2 0 o) + b (ix3 r ⟨1 + p.val, by omega⟩ o) * w3 (ix2 0 o) + d (ix3 r ⟨1 + p.val, by omega⟩ o) * w6 (ix2 0 o))
        + (a (ix3 r ⟨2 + p.val, by omega⟩ o) * w1 (ix2 0 o) + b (ix3 r ⟨2 + p.val, by omega⟩ o) * w4 (ix2 0 o) + d (ix3 r ⟨2 + p.val, by omega⟩ o) * w7 (ix2 0 o))
        + (a (ix3 r ⟨3 + p.val, by omega⟩ o) * w2 (ix2 0 o) + b (ix3 r ⟨3 + p.val, by omega⟩ o) * w5 (ix2 0 o) + d (ix3 r ⟨3 + p.val, by omega⟩ o) * w8 (ix2 0 o))
        + f (ix2 0 o) := by
  have hp := p.isLt
  pointwise [k0_pay22, k0_pay21, k0_pay20, k0_pay19, k0_pay18]
  simp only [flat_div _ _ hp, flat_mod _ _ hp,
    wide_div _ _ (show 1 + p.val < 136 by omega), wide_mod _ _ (show 1 + p.val < 136 by omega),
    wide_div _ _ (show 2 + p.val < 136 by omega), wide_mod _ _ (show 2 + p.val < 136 by omega),
    wide_div _ _ (show 3 + p.val < 136 by omega), wide_mod _ _ (show 3 + p.val < 136 by omega)]

/-- The stored block at an output: the 1 × 1 convolution of the coarse picture, and the choice by the complexity map. -/
theorem pay1_at (u v : FVec Ideal S4096x256 .f32) (g : FVec Ideal S256x256 .f32) (b : FVec Ideal S1x256 .f32)
    (x : FVec Ideal S1x4096x1 .f32) (q : Fin 4096) (o : Fin 256) :
    k0_pay1 (F := Ideal) u v (FloatOps.ofBits .f32 0x00000000#32) g b x (ix3 0 o q)
      = if Ideal.ofBits .f32 0x3F000000#32 < x (ix3 0 q 0) then u (ix2 q o)
        else max ((∑ k : Fin 256, max (v (ix2 q k)) 0 * g (ix2 k o)) + b (ix2 0 o)) 0 := by
  pointwise [k0_pay1]

/-- The 32-bit word computing "is row `q / 128 + (32 n - 4)` of the picture one of its 128 rows". -/
def rowTest (v0 y : BitVec 32) : BitVec 1 :=
  IntOp.andi
    (IntOp.cmpi .sge
      (IntOp.addi
        (Scalar.select
          (IntOp.andi
            (IntOp.cmpi .ne
              (IntOp.subi (BitVec.setWidth 32 (IntOp.cmpi .sgt y 0#32)) (BitVec.setWidth 32 (IntOp.cmpi .slt y 0#32)))
              (Scalar.subi (Scalar.extui (Scalar.cmpi .sgt 128#32 0#32)) (Scalar.extui (Scalar.cmpi .slt 128#32 0#32))))
            (IntOp.cmpi .ne (IntOp.remsi ArithUnit.vector y 128#32) 0#32))
          (IntOp.subi (IntOp.divsi ArithUnit.vector y 128#32) 1#32)
          (IntOp.divsi ArithUnit.vector y 128#32))
        (Scalar.subi v0 4#32))
      0#32)
    (IntOp.cmpi .slt
      (IntOp.addi
        (Scalar.select
          (IntOp.andi
            (IntOp.cmpi .ne
              (IntOp.subi (BitVec.setWidth 32 (IntOp.cmpi .sgt y 0#32)) (BitVec.setWidth 32 (IntOp.cmpi .slt y 0#32)))
              (Scalar.subi (Scalar.extui (Scalar.cmpi .sgt 128#32 0#32)) (Scalar.extui (Scalar.cmpi .slt 128#32 0#32))))
            (IntOp.cmpi .ne (IntOp.remsi ArithUnit.vector y 128#32) 0#32))
          (IntOp.subi (IntOp.divsi ArithUnit.vector y 128#32) 1#32)
          (IntOp.divsi ArithUnit.vector y 128#32))
        (Scalar.subi v0 4#32))
      128#32)

/-- … decided at every row of every strip. -/
theorem rowTest_eq : ∀ (n : Fin 4) (q : Fin 5120),
    rowTest (Scalar.muli (BitVec.ofNat 32 n.val) 32#32) (BitVec.ofNat 32 q.val)
      = if 4 ≤ q.val / 128 + 32 * n.val ∧ q.val / 128 + 32 * n.val < 132 then 1#1 else 0#1 := by
  decide +kernel

/-- The masking of the rows outside the picture. -/
theorem pay9_at (n : Fin 4) (x : FVec Ideal S5120x256 .f32) (q : Fin 5120) (o : Fin 256) :
    k0_pay9 (F := Ideal) (Scalar.muli (BitVec.ofNat 32 n.val) 32#32) x (iota .tc S5120x1 32 [0] iota_S5120x1_d0_w32) (ix2 q o)
      = if 4 ≤ q.val / 128 + 32 * n.val ∧ q.val / 128 + 32 * n.val < 132 then x (ix2 q o) else 0 := by
  have e : k0_pay9 (F := Ideal) (Scalar.muli (BitVec.ofNat 32 n.val) 32#32) x (iota .tc S5120x1 32 [0] iota_S5120x1_d0_w32) (ix2 q o)
      = Scalar.select (rowTest (Scalar.muli (BitVec.ofNat 32 n.val) 32#32) (BitVec.ofNat 32 q.val)) (x (ix2 q o)) 0 := by
    pointwise [k0_pay9]
    rfl
  rw [e, rowTest_eq]
  split
  · rfl
  · rfl

end Cert.KernelIdeal.Blk
-- ==== Proof.KStage.lean ====
module

public import proofs.«01_k».proof.Proof.KPay
public import Idealize.ShloMosaic.Lib.Pipeline.Value

/-!
# What the kernel's two staging arrays hold

The kernel keeps 44 rows of the picture, channel last, in one array, and 40 rows of the first convolution in another.
Both have columns beside the picture that are set to zero, so a shifted read needs no test. Here each array, as the
three stores leave it, is read at an index of its columns from 8 on.
-/

@[expose] public section

set_option maxRecDepth 16384

noncomputable section

namespace Cert.KernelIdeal.Blk

open Idealize.ShloMosaic Idealize.ShloMosaic.TcCoe Idealize.SL.Sem
open Cert.KernelIdeal Cert.KernelIdeal.Gen Cert.Spec

/-- The three stores into the array of picture rows, last first. -/
def xsPieces (xr : Vec Ideal S256x5632 .f32) : List (View.Piece (Elt Ideal) S44x144x256 .f32) :=
  [⟨Rect.unit (s := S44x144x256) ![0, 10, 0] S44x128x256.size inb_S44x144x256_S44x128x256_0_10_0, k0_pay6 (F := Ideal) xr⟩,
   ⟨Rect.unit (s := S44x144x256) ![0, 138, 0] S44x6x256.size inb_S44x144x256_S44x6x256_0_138_0, k0_pay5 (F := Ideal)⟩,
   ⟨Rect.unit (s := S44x144x256) ![0, 8, 0] S44x2x256.size inb_S44x144x256_S44x2x256_0_8_0, k0_pay4 (F := Ideal)⟩]

/-- What they leave. -/
def xsOf (xr : Vec Ideal S256x5632 .f32) : Vec Ideal S44x144x256 .f32 := View.canon (xsPieces xr)

/-- The three stores into the array of first-convolution rows, last first. -/
def f1Pieces (f : FVec Ideal S5120x256 .f32) : List (View.Piece (Elt Ideal) S40x144x256 .f32) :=
  [⟨Rect.unit (s := S40x144x256) ![0, 12, 0] S40x128x256.size inb_S40x144x256_S40x128x256_0_12_0, k0_pay13 (F := Ideal) f⟩,
   ⟨Rect.unit (s := S40x144x256) ![0, 140, 0] S40x4x256.size inb_S40x144x256_S40x4x256_0_140_0, k0_pay12 (F := Ideal) (k0_pay11 (F := Ideal))⟩,
   ⟨Rect.unit (s := S40x144x256) ![0, 8, 0] S40x4x256.size inb_S40x144x256_S40x4x256_0_8_0, k0_pay10 (F := Ideal)⟩]

/-- What they leave. -/
def f1Of (f : FVec Ideal S5120x256 .f32) : Vec Ideal S40x144x256 .f32 := View.canon (f1Pieces f)

/-- The array of picture rows at an index: row `r` holds picture row `top + r`, column `w` picture column `w - 10`,
    and zero where there is no such column. -/
theorem xsOf_at (xr : Vec Ideal S256x5632 .f32) (X : Fin 256 → Plane) (top : ℤ)
    (hx : ∀ (c : Fin 256) (r : Fin 44) (w : Fin 128), xr (ix2 c ⟨r.val * 128 + w.val, by omega⟩) = at0 (X c) (top + r.val) w.val)
    (r : Fin 44) (w : Fin 144) (c : Fin 256) (hw : 8 ≤ w.val) :
    xsOf xr (ix3 r w c) = at0 (X c) (top + r.val) ((w.val : ℤ) - 10) := by
  refine View.canon_apply_of_pieces (S := S44x144x256) (e := .f32) (Val := Elt Ideal)
    (fun j => at0 (X (j 2)) (top + ((j 0).val : ℤ)) (((j 1).val : ℤ) - 10)) (xsPieces xr) ?_ (ix3 r w c) ?_
  · intro p hp
    simp only [xsPieces, List.mem_cons, List.not_mem_nil, or_false] at hp
    rcases hp with rfl | rfl | rfl
    · intro x
      obtain ⟨a, b, d, rfl⟩ : ∃ (a : Fin 44) (b : Fin 128) (d : Fin 256), x = ix3 a b d := ⟨x 0, x 1, x 2, eq_ix3 x⟩
      refine (pay6_at xr a b d).trans ((hx d a b).trans ?_)
      have e0 : (((Rect.unit (s := S44x144x256) ![0, 10, 0] S44x128x256.size inb_S44x144x256_S44x128x256_0_10_0).emb (ix3 a b d)) 0).val = a.val := by
        rw [Rect.emb_apply]; show 0 + 1 * a.val = a.val; omega
      have e1 : (((Rect.unit (s := S44x144x256) ![0, 10, 0] S44x128x256.size inb_S44x144x256_S44x128x256_0_10_0).emb (ix3 a b d)) 1).val = 10 + b.val := by
        rw [Rect.emb_apply]; show 10 + 1 * b.val = 10 + b.val; omega
      have e2 : ((Rect.unit (s := S44x144x256) ![0, 10, 0] S44x128x256.size inb_S44x144x256_S44x128x256_0_10_0).emb (ix3 a b d)) 2 = d := by
        refine Fin.ext ?_; rw [Rect.emb_apply]; show 0 + 1 * d.val = d.val; omega
      dsimp only
      rw [e0, e1, e2]
      congr 1
      omega
    · intro x
      refine (pay5_at x).trans (at0_out _ _ _ ?_).symm
      have e1 : (((Rect.unit (s := S44x144x256) ![0, 138, 0] S44x6x256.size inb_S44x144x256_S44x6x256_0_138_0).emb x) 1).val = 138 + (x 1).val := by
        rw [Rect.emb_apply]; show 138 + 1 * (x 1).val = 138 + (x 1).val; omega
      rw [e1]; omega
    · intro x
      refine (pay4_at x).trans (at0_out _ _ _ ?_).symm
      have hx1 : (x 1).val < 2 := (x 1).isLt
      have e1 : (((Rect.unit (s := S44x144x256) ![0, 8, 0] S44x2x256.size inb_S44x144x256_S44x2x256_0_8_0).emb x) 1).val = 8 + (x 1).val := by
        rw [Rect.emb_apply]; show 8 + 1 * (x 1).val = 8 + (x 1).val; omega
      rw [e1]; omega
  · have hr := r.isLt
    have hw' := w.isLt
    have hc := c.isLt
    by_cases h1 : w.val < 10
    · refine ⟨_, List.mem_cons_of_mem _ (List.mem_cons_of_mem _ List.mem_cons_self), ?_⟩
      rw [Rect.mem_set_unit, Fin.forall_fin_succ, Fin.forall_fin_two]
      exact ⟨⟨Nat.zero_le _, by show r.val < 0 + 44; omega⟩, ⟨by show 8 ≤ w.val; omega, by show w.val < 8 + 2; omega⟩, ⟨Nat.zero_le _, by show c.val < 0 + 256; omega⟩⟩
    · by_cases h2 : w.val < 138
      · refine ⟨_, List.mem_cons_self, ?_⟩
        rw [Rect.mem_set_unit, Fin.forall_fin_succ, Fin.forall_fin_two]
        exact ⟨⟨Nat.zero_le _, by show r.val < 0 + 44; omega⟩, ⟨by show 10 ≤ w.val; omega, by show w.val < 10 + 128; omega⟩, ⟨Nat.zero_le _, by show c.val < 0 + 256; omega⟩⟩
      · refine ⟨_, List.mem_cons_of_mem _ List.mem_cons_self, ?_⟩
        rw [Rect.mem_set_unit, Fin.forall_fin_succ, Fin.forall_fin_two]
        exact ⟨⟨Nat.zero_le _, by show r.val < 0 + 44; omega⟩, ⟨by show 138 ≤ w.val; omega, by show w.val < 138 + 6; omega⟩, ⟨Nat.zero_le _, by show c.val < 0 + 256; omega⟩⟩

/-- The array of first-convolution rows at an index: row `r` holds picture row `top + r`, column `w` picture column
    `w - 12`, and zero where there is no such place. -/
theorem f1Of_at (f : FVec Ideal S5120x256 .f32) (Y : Fin 256 → Plane) (top : ℤ)
    (hf : ∀ (c : Fin 256) (r : Fin 40) (w : Fin 128), f (ix2 ⟨r.val * 128 + w.val, by omega⟩ c) = at0 (Y c) (top + r.val) w.val)
    (r : Fin 40) (w : Fin 144) (c : Fin 256) (hw : 8 ≤ w.val) :
    f1Of f (ix3 r w c) = at0 (Y c) (top + r.val) ((w.val : ℤ) - 12) := by
  refine View.canon_apply_of_pieces (S := S40x144x256) (e := .f32) (Val := Elt Ideal)
    (fun j => at0 (Y (j 2)) (top + ((j 0).val : ℤ)) (((j 1).val : ℤ) - 12)) (f1Pieces f) ?_ (ix3 r w c) ?_
  · intro p hp
    simp only [f1Pieces, List.mem_cons, List.not_mem_nil, or_false] at hp
    rcases hp with rfl | rfl | rfl
    · intro x
      obtain ⟨a, b, d, rfl⟩ : ∃ (a : Fin 40) (b : Fin 128) (d : Fin 256), x = ix3 a b d := ⟨x 0, x 1, x 2, eq_ix3 x⟩
      refine (pay13_at f a b d).trans ((hf d a b).trans ?_)
      have e0 : (((Rect.unit (s := S40x144x256) ![0, 12, 0] S40x128x256.size inb_S40x144x256_S40x128x256_0_12_0).emb (ix3 a b d)) 0).val = a.val := by
        rw [Rect.emb_apply]; show 0 + 1 * a.val = a.val; omega
      have e1 : (((Rect.unit (s := S40x144x256) ![0, 12, 0] S40x128x256.size inb_S40x144x256_S40x128x256_0_12_0).emb (ix3 a b d)) 1).val = 12 + b.val := by
        rw [Rect.emb_apply]; show 12 + 1 * b.val = 12 + b.val; omega
      have e2 : ((Rect.unit (s := S40x144x256) ![0, 12, 0] S40x128x256.size inb_S40x144x256_S40x128x256_0_12_0).emb (ix3 a b d)) 2 = d := by
        refine Fin.ext ?_; rw [Rect.emb_apply]; show 0 + 1 * d.val = d.val; omega
      dsimp only
      rw [e0, e1, e2]
      congr 1
      omega
    · intro x
      refine (pay12_at x).trans (at0_out _ _ _ ?_).symm
      have e1 : (((Rect.unit (s := S40x144x256) ![0, 140, 0] S40x4x256.size inb_S40x144x256_S40x4x256_0_140_0).emb x) 1).val = 140 + (x 1).val := by
        rw [Rect.emb_apply]; show 140 + 1 * (x 1).val = 140 + (x 1).val; omega
      rw [e1]; omega
    · intro x
      refine (pay10_at x).trans (at0_out _ _ _ ?_).symm
      have hx1 : (x 1).val < 4 := (x 1).isLt
      have e1 : (((Rect.unit (s := S40x144x256) ![0, 8, 0] S40x4x256.size inb_S40x144x256_S40x4x256_0_8_0).emb x) 1).val = 8 + (x 1).val := by
        rw [Rect.emb_apply]; show 8 + 1 * (x 1).val = 8 + (x 1).val; omega
      rw [e1]; omega
  · have hr := r.isLt
    have hw' := w.isLt
    have hc := c.isLt
    by_cases h1 : w.val < 12
    · refine ⟨_, List.mem_cons_of_mem _ (List.mem_cons_of_mem _ List.mem_cons_self), ?_⟩
      rw [Rect.mem_set_unit, Fin.forall_fin_succ, Fin.forall_fin_two]
      exact ⟨⟨Nat.zero_le _, by show r.val < 0 + 40; omega⟩, ⟨by show 8 ≤ w.val; omega, by show w.val < 8 + 4; omega⟩, ⟨Nat.zero_le _, by show c.val < 0 + 256; omega⟩⟩
    · by_cases h2 : w.val < 140
      · refine ⟨_, List.mem_cons_self, ?_⟩
        rw [Rect.mem_set_unit, Fin.forall_fin_succ, Fin.forall_fin_two]
        exact ⟨⟨Nat.zero_le _, by show r.val < 0 + 40; omega⟩, ⟨by show 12 ≤ w.val; omega, by show w.val < 12 + 128; omega⟩, ⟨Nat.zero_le _, by show c.val < 0 + 256; omega⟩⟩
      · refine ⟨_, List.mem_cons_of_mem _ List.mem_cons_self, ?_⟩
        rw [Rect.mem_set_unit, Fin.forall_fin_succ, Fin.forall_fin_two]
        exact ⟨⟨Nat.zero_le _, by show r.val < 0 + 40; omega⟩, ⟨by show 140 ≤ w.val; omega, by show w.val < 140 + 4; omega⟩, ⟨Nat.zero_le _, by show c.val < 0 + 256; omega⟩⟩

end Cert.KernelIdeal.Blk
-- ==== Proof.KBlock.lean ====
module

public import proofs.«01_k».proof.Proof.KStage

/-!
# What one grid point stores

`blockOf` is the block the kernel body stores, as a function of the 44 staged picture rows and the staged operands.
`blockOf_at` reads it at an index: it is the mathematics of `Spec` at the picture rows of the strip.
-/

@[expose] public section

set_option maxRecDepth 16384

noncomputable section

namespace Cert.KernelIdeal.Blk

open Idealize.ShloMosaic Idealize.ShloMosaic.TcCoe Idealize.SL.Sem
open Cert.KernelIdeal Cert.KernelIdeal.Gen Cert.Spec

/-- A load of 40 wide rows of the array of picture rows. -/
abbrev xs40 (xs : Vec Ideal S44x144x256 .f32) (off : Fin 3 → ℕ) (inb : ∀ a, off a + S40x136x256.size a ≤ S44x144x256.size a) :
    Vec Ideal S40x136x256 .f32 :=
  View.ld (Val := Elt Ideal) (S := S44x144x256) (e' := .f32) xs (Rect.unit (s := S44x144x256) off S40x136x256.size inb)

/-- A load of 32 wide rows of it. -/
abbrev xs32 (xs : Vec Ideal S44x144x256 .f32) (off : Fin 3 → ℕ) (inb : ∀ a, off a + S32x136x256.size a ≤ S44x144x256.size a) :
    Vec Ideal S32x136x256 .f32 :=
  View.ld (Val := Elt Ideal) (S := S44x144x256) (e' := .f32) xs (Rect.unit (s := S44x144x256) off S32x136x256.size inb)

/-- A load of 32 wide rows of the array of first-convolution rows. -/
abbrev f132 (f : Vec Ideal S40x144x256 .f32) (off : Fin 3 → ℕ) (inb : ∀ a, off a + S32x136x256.size a ≤ S40x144x256.size a) :
    Vec Ideal S32x136x256 .f32 :=
  View.ld (Val := Elt Ideal) (S := S40x144x256) (e' := .f32) f (Rect.unit (s := S40x144x256) off S32x136x256.size inb)

/-- One column of taps of a dense filter. -/
abbrev wcol (w : Vec Ideal S3x768x256 .f32) (off : Fin 3 → ℕ) (inb : ∀ a, off a + S1x768x256.size a ≤ S3x768x256.size a) :
    Vec Ideal S1x768x256 .f32 :=
  View.ld (Val := Elt Ideal) (S := S3x768x256) (e' := .f32) w (Rect.unit (s := S3x768x256) off S1x768x256.size inb)

/-- One tap of the per-channel filter. -/
abbrev drow (w : Vec Ideal S9x256 .f32) (off : Fin 2 → ℕ) (inb : ∀ a, off a + S1x256.size a ≤ S9x256.size a) :
    Vec Ideal S1x256 .f32 :=
  View.ld (Val := Elt Ideal) (S := S9x256) (e' := .f32) w (Rect.unit (s := S9x256) off S1x256.size inb)

/-- One of the four biases. -/
abbrev brow (b : Vec Ideal S4x256 .f32) (off : Fin 2 → ℕ) (inb : ∀ a, off a + S1x256.size a ≤ S4x256.size a) :
    Vec Ideal S1x256 .f32 :=
  View.ld (Val := Elt Ideal) (S := S4x256) (e' := .f32) b (Rect.unit (s := S4x256) off S1x256.size inb)

/-- The 40 rows of the first convolution, rows outside the picture set to zero. -/
def fine1Of (v0 : BitVec 32) (xs : Vec Ideal S44x144x256 .f32) (w1 : Vec Ideal S3x768x256 .f32) (bs : Vec Ideal S4x256 .f32) :
    FVec Ideal S5120x256 .f32 :=
  k0_pay9 (F := Ideal) v0
    (k0_pay8 (F := Ideal) (k0_pay7 (xs40 xs ![0, 8, 0] inb_S44x144x256_S40x136x256_0_8_0))
      (xs40 xs ![2, 8, 0] inb_S44x144x256_S40x136x256_2_8_0) (xs40 xs ![4, 8, 0] inb_S44x144x256_S40x136x256_4_8_0)
      (wcol w1 ![0, 0, 0] inb_S3x768x256_S1x768x256_0_0_0) (wcol w1 ![1, 0, 0] inb_S3x768x256_S1x768x256_1_0_0)
      (wcol w1 ![2, 0, 0] inb_S3x768x256_S1x768x256_2_0_0)
      (View.ld (Val := Elt Ideal) (S := S44x144x256) (e' := .f32) xs
        (Rect.unit (s := S44x144x256) ![2, 10, 0] S40x128x256.size inb_S44x144x256_S40x128x256_2_10_0))
      (brow bs ![0, 0] inb_S4x256_S1x256_0_0))
    (iota .tc S5120x1 32 [0] iota_S5120x1_d0_w32)

/-- The 32 rows of the second convolution. -/
def fine2Of (f : Vec Ideal S40x144x256 .f32) (w2 : Vec Ideal S3x768x256 .f32) (bs : Vec Ideal S4x256 .f32) : FVec Ideal S4096x256 .f32 :=
  k0_pay17 (F := Ideal)
    (k0_pay15 (f132 f ![0, 8, 0] inb_S40x144x256_S32x136x256_0_8_0) (f132 f ![4, 8, 0] inb_S40x144x256_S32x136x256_4_8_0)
      (f132 f ![8, 8, 0] inb_S40x144x256_S32x136x256_8_8_0)
      (wcol w2 ![0, 0, 0] inb_S3x768x256_S1x768x256_0_0_0) (wcol w2 ![1, 0, 0] inb_S3x768x256_S1x768x256_1_0_0))
    (k0_pay16 (f132 f ![0, 8, 0] inb_S40x144x256_S32x136x256_0_8_0) (f132 f ![4, 8, 0] inb_S40x144x256_S32x136x256_4_8_0)
      (f132 f ![8, 8, 0] inb_S40x144x256_S32x136x256_8_8_0) (wcol w2 ![2, 0, 0] inb_S3x768x256_S1x768x256_2_0_0))
    (View.ld (Val := Elt Ideal) (S := S40x144x256) (e' := .f32) f
      (Rect.unit (s := S40x144x256) ![4, 12, 0] S32x128x256.size inb_S40x144x256_S32x128x256_4_12_0))
    (brow bs ![1, 0] inb_S4x256_S1x256_1_0)

/-- The 32 rows of the per-channel convolution, before the maximum with zero. -/
def coarseOf (xs : Vec Ideal S44x144x256 .f32) (wd : Vec Ideal S9x256 .f32) (bs : Vec Ideal S4x256 .f32) : FVec Ideal S4096x256 .f32 :=
  k0_pay22 (F := Ideal) (k0_pay18 (xs32 xs ![5, 8, 0] inb_S44x144x256_S32x136x256_5_8_0))
    (k0_pay19 (xs32 xs ![6, 8, 0] inb_S44x144x256_S32x136x256_6_8_0)) (k0_pay20 (xs32 xs ![7, 8, 0] inb_S44x144x256_S32x136x256_7_8_0))
    (k0_pay21 (xs32 xs ![5, 8, 0] inb_S44x144x256_S32x136x256_5_8_0) (xs32 xs ![6, 8, 0] inb_S44x144x256_S32x136x256_6_8_0)
      (xs32 xs ![7, 8, 0] inb_S44x144x256_S32x136x256_7_8_0)
      (drow wd ![0, 0] inb_S9x256_S1x256_0_0) (drow wd ![3, 0] inb_S9x256_S1x256_3_0) (drow wd ![6, 0] inb_S9x256_S1x256_6_0))
    (drow wd ![1, 0] inb_S9x256_S1x256_1_0) (drow wd ![4, 0] inb_S9x256_S1x256_4_0) (drow wd ![7, 0] inb_S9x256_S1x256_7_0)
    (drow wd ![2, 0] inb_S9x256_S1x256_2_0) (drow wd ![5, 0] inb_S9x256_S1x256_5_0) (drow wd ![8, 0] inb_S9x256_S1x256_8_0)
    (brow bs ![2, 0] inb_S4x256_S1x256_2_0)

/-- The block a grid point stores. -/
def blockOf (v0 : BitVec 32) (xr : Vec Ideal S256x5632 .f32) (cm : Vec Ideal S1x4096x1 .f32) (w1 w2 : Vec Ideal S3x768x256 .f32)
    (wd : Vec Ideal S9x256 .f32) (wp : Vec Ideal S256x256 .f32) (bs : Vec Ideal S4x256 .f32) : Vec Ideal S1x256x4096 .f32 :=
  k0_pay1 (F := Ideal) (fine2Of (f1Of (fine1Of v0 (xsOf xr) w1 bs)) w2 bs) (coarseOf (xsOf xr) wd bs)
    (FloatOps.ofBits .f32 0x00000000#32) wp (brow bs ![3, 0] inb_S4x256_S1x256_3_0) cm

/-! ## Read at an index -/

/-- One matrix product of the kernel is three taps. -/
theorem row3_tap (a b d : Fin 256 → EReal) (u : FVec Ideal S1x768x256 .f32) (o : Fin 256) (X : Fin 256 → Plane)
    (g : Fin 3 → Fin 256 → EReal) (h0 h1 h2 x : ℤ) (ha : ∀ k, a k = at0 (X k) h0 x) (hb : ∀ k, b k = at0 (X k) h1 x)
    (hd : ∀ k, d k = at0 (X k) h2 x)
    (hu : ∀ (ky : Fin 3) (k : Fin 256), u (ix3 0 ⟨ky.val * 256 + k.val, by omega⟩ o) = g ky k) :
    row3 a b d u o = tap X (g 0) h0 x + tap X (g 1) h1 x + tap X (g 2) h2 x := by
  refine congrArg₂ (· + ·) (congrArg₂ (· + ·) ?_ ?_) ?_
  · refine Finset.sum_congr rfl fun k _ => congrArg₂ (· * ·) (ha k) ((congrArg u ?_).trans (hu 0 k))
    exact (ix3_inj ..).2 ⟨rfl, Fin.ext (by show k.val = 0 * 256 + k.val; omega), rfl⟩
  · refine Finset.sum_congr rfl fun k _ => congrArg₂ (· * ·) (hb k) ((congrArg u ?_).trans (hu 1 k))
    exact (ix3_inj ..).2 ⟨rfl, Fin.ext (by show 256 + k.val = 1 * 256 + k.val; omega), rfl⟩
  · refine Finset.sum_congr rfl fun k _ => congrArg₂ (· * ·) (hd k) ((congrArg u ?_).trans (hu 2 k))
    exact (ix3_inj ..).2 ⟨rfl, Fin.ext (by show 512 + k.val = 2 * 256 + k.val; omega), rfl⟩

/-- The kernel adds the taps column by column and the bias last; the sum is the same. -/
theorem nine_comm (e t00 t01 t02 t10 t11 t12 t20 t21 t22 b : EReal) :
    e + (t00 + t10 + t20 + (t01 + t11 + t21) + (t02 + t12 + t22)) + b
      = e + (t00 + t01 + t02 + t10 + t11 + t12 + t20 + t21 + t22 + b) := by
  abel

/-- One column of taps, read. -/
theorem wcol_at (w : Vec Ideal S3x768x256 .f32) (W : Fin 256 → Fin 256 → Fin 3 → Fin 3 → EReal)
    (hw : ∀ (kx ky : Fin 3) (k o : Fin 256), w (ix3 kx ⟨ky.val * 256 + k.val, by omega⟩ o) = W o k ky kx)
    (kx : Fin 3) (inb : ∀ a, (![kx.val, 0, 0] : Fin 3 → ℕ) a + S1x768x256.size a ≤ S3x768x256.size a) (o : Fin 256) (ky : Fin 3) (k : Fin 256) :
    wcol w ![kx.val, 0, 0] inb (ix3 0 ⟨ky.val * 256 + k.val, by omega⟩ o) = W o k ky kx := by
  refine Eq.trans (congrArg w ?_) (hw kx ky k o)
  funext a
  refine Fin.ext ?_
  match a with
  | ⟨0, _⟩ => show kx.val + 1 * 0 = kx.val; omega
  | ⟨1, _⟩ => show 0 + 1 * (ky.val * 256 + k.val) = ky.val * 256 + k.val; omega
  | ⟨2, _⟩ => show 0 + 1 * o.val = o.val; omega

/-- A load of rows of the staged picture, read. -/
theorem xs40_at (xs : Vec Ideal S44x144x256 .f32) (X : Fin 256 → Plane) (top : ℤ)
    (hxs : ∀ (r : Fin 44) (w : Fin 144) (c : Fin 256), 8 ≤ w.val → xs (ix3 r w c) = at0 (X c) (top + r.val) ((w.val : ℤ) - 10))
    (d : ℕ) (inb : ∀ a, (![d, 8, 0] : Fin 3 → ℕ) a + S40x136x256.size a ≤ S44x144x256.size a) (r : Fin 40) (w : Fin 136) (c : Fin 256) :
    xs40 xs ![d, 8, 0] inb (ix3 r w c) = at0 (X c) (top + d + r.val) ((w.val : ℤ) - 2) := by
  have hd : d + 40 ≤ 44 := inb 0
  refine Eq.trans (congrArg xs ?_) ((hxs ⟨d + r.val, by omega⟩ ⟨8 + w.val, by omega⟩ c (by show 8 ≤ 8 + w.val; omega)).trans ?_)
  · funext a
    refine Fin.ext ?_
    match a with
    | ⟨0, _⟩ => show d + 1 * r.val = d + r.val; omega
    | ⟨1, _⟩ => show 8 + 1 * w.val = 8 + w.val; omega
    | ⟨2, _⟩ => show 0 + 1 * c.val = c.val; omega
  · exact congrArg₂ (at0 (X c)) (by dsimp only; omega) (by dsimp only; omega)

theorem xs32_at (xs : Vec Ideal S44x144x256 .f32) (X : Fin 256 → Plane) (top : ℤ)
    (hxs : ∀ (r : Fin 44) (w : Fin 144) (c : Fin 256), 8 ≤ w.val → xs (ix3 r w c) = at0 (X c) (top + r.val) ((w.val : ℤ) - 10))
    (d : ℕ) (inb : ∀ a, (![d, 8, 0] : Fin 3 → ℕ) a + S32x136x256.size a ≤ S44x144x256.size a) (r : Fin 32) (w : Fin 136) (c : Fin 256) :
    xs32 xs ![d, 8, 0] inb (ix3 r w c) = at0 (X c) (top + d + r.val) ((w.val : ℤ) - 2) := by
  have hd : d + 32 ≤ 44 := inb 0
  refine Eq.trans (congrArg xs ?_) ((hxs ⟨d + r.val, by omega⟩ ⟨8 + w.val, by omega⟩ c (by show 8 ≤ 8 + w.val; omega)).trans ?_)
  · funext a
    refine Fin.ext ?_
    match a with
    | ⟨0, _⟩ => show d + 1 * r.val = d + r.val; omega
    | ⟨1, _⟩ => show 8 + 1 * w.val = 8 + w.val; omega
    | ⟨2, _⟩ => show 0 + 1 * c.val = c.val; omega
  · exact congrArg₂ (at0 (X c)) (by dsimp only; omega) (by dsimp only; omega)

theorem f132_at (f : Vec Ideal S40x144x256 .f32) (Y : Fin 256 → Plane) (top : ℤ)
    (hf : ∀ (r : Fin 40) (w : Fin 144) (c : Fin 256), 8 ≤ w.val → f (ix3 r w c) = at0 (Y c) (top + r.val) ((w.val : ℤ) - 12))
    (d : ℕ) (inb : ∀ a, (![d, 8, 0] : Fin 3 → ℕ) a + S32x136x256.size a ≤ S40x144x256.size a) (r : Fin 32) (w : Fin 136) (c : Fin 256) :
    f132 f ![d, 8, 0] inb (ix3 r w c) = at0 (Y c) (top + d + r.val) ((w.val : ℤ) - 4) := by
  have hd : d + 32 ≤ 40 := inb 0
  refine Eq.trans (congrArg f ?_) ((hf ⟨d + r.val, by omega⟩ ⟨8 + w.val, by omega⟩ c (by show 8 ≤ 8 + w.val; omega)).trans ?_)
  · funext a
    refine Fin.ext ?_
    match a with
    | ⟨0, _⟩ => show d + 1 * r.val = d + r.val; omega
    | ⟨1, _⟩ => show 8 + 1 * w.val = 8 + w.val; omega
    | ⟨2, _⟩ => show 0 + 1 * c.val = c.val; omega
  · exact congrArg₂ (at0 (Y c)) (by dsimp only; omega) (by dsimp only; omega)

theorem drow_at (wd : Vec Ideal S9x256 .f32) (W : Fin 256 → Fin 3 → Fin 3 → EReal)
    (hw : ∀ (ky kx : Fin 3) (c : Fin 256), wd (ix2 ⟨ky.val * 3 + kx.val, by omega⟩ c) = W c ky kx)
    (ky kx : Fin 3) (q : ℕ) (hq : q = ky.val * 3 + kx.val) (inb : ∀ a, (![q, 0] : Fin 2 → ℕ) a + S1x256.size a ≤ S9x256.size a) (c : Fin 256) :
    drow wd ![q, 0] inb (ix2 0 c) = W c ky kx := by
  subst hq
  refine Eq.trans (congrArg wd ?_) (hw ky kx c)
  funext a
  refine Fin.ext ?_
  match a with
  | ⟨0, _⟩ => show ky.val * 3 + kx.val + 1 * 0 = ky.val * 3 + kx.val; omega
  | ⟨1, _⟩ => show 0 + 1 * c.val = c.val; omega

theorem brow_at (bs : Vec Ideal S4x256 .f32) (q : Fin 4) (inb : ∀ a, (![q.val, 0] : Fin 2 → ℕ) a + S1x256.size a ≤ S4x256.size a) (c : Fin 256) :
    brow bs ![q.val, 0] inb (ix2 0 c) = bs (ix2 q c) := by
  refine congrArg bs ?_
  funext a
  refine Fin.ext ?_
  match a with
  | ⟨0, _⟩ => show q.val + 1 * 0 = q.val; omega
  | ⟨1, _⟩ => show 0 + 1 * c.val = c.val; omega

/-- The first convolution: row `r` of the strip is picture row `32 n - 4 + r`, zero where there is none. -/
theorem fine1Of_at (n : Fin 4) (xs : Vec Ideal S44x144x256 .f32) (w1 : Vec Ideal S3x768x256 .f32) (bs : Vec Ideal S4x256 .f32)
    (X : Fin 256 → Plane) (W : Fin 256 → Fin 256 → Fin 3 → Fin 3 → EReal) (b : Fin 256 → EReal)
    (hxs : ∀ (r : Fin 44) (w : Fin 144) (c : Fin 256), 8 ≤ w.val →
      xs (ix3 r w c) = at0 (X c) ((32 * n.val - 6 : ℤ) + r.val) ((w.val : ℤ) - 10))
    (hw : ∀ (kx ky : Fin 3) (k o : Fin 256), w1 (ix3 kx ⟨ky.val * 256 + k.val, by omega⟩ o) = W o k ky kx)
    (hb : ∀ o : Fin 256, bs (ix2 0 o) = b o) (o : Fin 256) (r : Fin 40) (p : Fin 128) :
    fine1Of (Scalar.muli (BitVec.ofNat 32 n.val) 32#32) xs w1 bs (ix2 ⟨r.val * 128 + p.val, by omega⟩ o)
      = at0 (res 2 X W b o) ((32 * n.val - 4 : ℤ) + r.val) p.val := by
  have hp := p.isLt
  have hr := r.isLt
  have hn := n.isLt
  unfold fine1Of
  refine (pay9_at n _ ⟨r.val * 128 + p.val, by omega⟩ o).trans ?_
  have hq : (r.val * 128 + p.val) / 128 = r.val := flat_div _ _ hp
  by_cases hv : 4 ≤ r.val + 32 * n.val ∧ r.val + 32 * n.val < 132
  · rw [if_pos (by show 4 ≤ (r.val * 128 + p.val) / 128 + 32 * n.val ∧ _; rw [hq]; exact hv)]
    refine (pay8_at _ _ _ _ _ _ _ _ r p o).trans ?_
    refine Eq.trans ?_ (at0_in (res 2 X W b o) ⟨r.val + 32 * n.val - 4, by omega⟩ p _ _ (by dsimp only; omega) rfl).symm
    refine congrArg₂ max (Eq.trans ?_ (nine_comm _ _ _ _ _ _ _ _ _ _ _)) rfl
    have hb0 := (brow_at bs 0 inb_S4x256_S1x256_0_0 o).trans (hb o)
    have hl : ∀ (d : ℕ) (inb : ∀ a, (![d, 8, 0] : Fin 3 → ℕ) a + S40x136x256.size a ≤ S44x144x256.size a) (w : Fin 136) (y x : ℤ),
        (32 * n.val - 6 : ℤ) + d + r.val = y → (w.val : ℤ) - 2 = x →
        ∀ c : Fin 256, xs40 xs ![d, 8, 0] inb (ix3 r w c) = at0 (X c) y x :=
      fun d inb w y x hy hx c => by subst hy hx; exact xs40_at xs X _ hxs d inb r w c
    have hc := wcol_at w1 W hw
    refine congrArg₂ (· + ·) (congrArg₂ (· + ·) ?_ (congrArg₂ (· + ·) (congrArg₂ (· + ·) ?_ ?_) ?_)) hb0
    · refine Eq.trans (congrArg xs ?_) ((hxs ⟨2 + r.val, by omega⟩ ⟨10 + p.val, by omega⟩ o (by show 8 ≤ 10 + p.val; omega)).trans
        (at0_in (X o) ⟨r.val + 32 * n.val - 4, by omega⟩ p _ _ (by dsimp only; omega) (by dsimp only; omega)))
      funext a
      refine Fin.ext ?_
      match a with
      | ⟨0, _⟩ => show 2 + 1 * r.val = 2 + r.val; omega
      | ⟨1, _⟩ => show 10 + 1 * p.val = 10 + p.val; omega
      | ⟨2, _⟩ => show 0 + 1 * o.val = o.val; omega
    · exact row3_tap _ _ _ _ o X (fun ky k => W o k ky 0) _ _ _ _
        (hl 0 _ _ _ _ (by dsimp only; omega) (by dsimp only)) (hl 2 _ _ _ _ (by dsimp only; omega) (by dsimp only))
        (hl 4 _ _ _ _ (by dsimp only; omega) (by dsimp only)) (hc 0 inb_S3x768x256_S1x768x256_0_0_0 o)
    · exact row3_tap _ _ _ _ o X (fun ky k => W o k ky 1) _ _ _ _
        (hl 0 _ _ _ _ (by dsimp only; omega) (by dsimp only; omega)) (hl 2 _ _ _ _ (by dsimp only; omega) (by dsimp only; omega))
        (hl 4 _ _ _ _ (by dsimp only; omega) (by dsimp only; omega)) (hc 1 inb_S3x768x256_S1x768x256_1_0_0 o)
    · exact row3_tap _ _ _ _ o X (fun ky k => W o k ky 2) _ _ _ _
        (hl 0 _ _ _ _ (by dsimp only; omega) (by dsimp only; omega)) (hl 2 _ _ _ _ (by dsimp only; omega) (by dsimp only; omega))
        (hl 4 _ _ _ _ (by dsimp only; omega) (by dsimp only; omega)) (hc 2 inb_S3x768x256_S1x768x256_2_0_0 o)
  · rw [if_neg (by show ¬(4 ≤ (r.val * 128 + p.val) / 128 + 32 * n.val ∧ _); rw [hq]; exact hv)]
    exact (at0_out _ _ _ (by omega)).symm

/-- The second convolution: row `r` of the strip is picture row `32 n + r`. -/
theorem fine2Of_at (n : Fin 4) (f : Vec Ideal S40x144x256 .f32) (w2 : Vec Ideal S3x768x256 .f32) (bs : Vec Ideal S4x256 .f32)
    (Y : Fin 256 → Plane) (W : Fin 256 → Fin 256 → Fin 3 → Fin 3 → EReal) (b : Fin 256 → EReal)
    (hf : ∀ (r : Fin 40) (w : Fin 144) (c : Fin 256), 8 ≤ w.val →
      f (ix3 r w c) = at0 (Y c) ((32 * n.val - 4 : ℤ) + r.val) ((w.val : ℤ) - 12))
    (hw : ∀ (kx ky : Fin 3) (k o : Fin 256), w2 (ix3 kx ⟨ky.val * 256 + k.val, by omega⟩ o) = W o k ky kx)
    (hb : ∀ o : Fin 256, bs (ix2 1 o) = b o) (o : Fin 256) (r : Fin 32) (p : Fin 128) :
    fine2Of f w2 bs (ix2 ⟨r.val * 128 + p.val, by omega⟩ o) = res 4 Y W b o ⟨32 * n.val + r.val, by omega⟩ p := by
  have hp := p.isLt
  have hr := r.isLt
  have hn := n.isLt
  unfold fine2Of
  refine (pay17_at _ _ _ _ _ _ _ _ r p o).trans ?_
  refine congrArg₂ max (Eq.trans ?_ (nine_comm _ _ _ _ _ _ _ _ _ _ _)) rfl
  have hb0 := (brow_at bs 1 inb_S4x256_S1x256_1_0 o).trans (hb o)
  have hl : ∀ (d : ℕ) (inb : ∀ a, (![d, 8, 0] : Fin 3 → ℕ) a + S32x136x256.size a ≤ S40x144x256.size a) (w : Fin 136) (y x : ℤ),
      (32 * n.val - 4 : ℤ) + d + r.val = y → (w.val : ℤ) - 4 = x →
      ∀ c : Fin 256, f132 f ![d, 8, 0] inb (ix3 r w c) = at0 (Y c) y x :=
    fun d inb w y x hy hx c => by subst hy hx; exact f132_at f Y _ hf d inb r w c
  have hc := wcol_at w2 W hw
  refine congrArg₂ (· + ·) (congrArg₂ (· + ·) ?_ (congrArg₂ (· + ·) (congrArg₂ (· + ·) ?_ ?_) ?_)) hb0
  · refine Eq.trans (congrArg f ?_) ((hf ⟨4 + r.val, by omega⟩ ⟨12 + p.val, by omega⟩ o (by show 8 ≤ 12 + p.val; omega)).trans
      (at0_in (Y o) ⟨32 * n.val + r.val, by omega⟩ p _ _ (by dsimp only; omega) (by dsimp only; omega)))
    funext a
    refine Fin.ext ?_
    match a with
    | ⟨0, _⟩ => show 4 + 1 * r.val = 4 + r.val; omega
    | ⟨1, _⟩ => show 12 + 1 * p.val = 12 + p.val; omega
    | ⟨2, _⟩ => show 0 + 1 * o.val = o.val; omega
  · exact row3_tap _ _ _ _ o Y (fun ky k => W o k ky 0) _ _ _ _
      (hl 0 _ _ _ _ (by dsimp only; omega) (by dsimp only)) (hl 4 _ _ _ _ (by dsimp only; omega) (by dsimp only))
      (hl 8 _ _ _ _ (by dsimp only; omega) (by dsimp only)) (hc 0 inb_S3x768x256_S1x768x256_0_0_0 o)
  · exact row3_tap _ _ _ _ o Y (fun ky k => W o k ky 1) _ _ _ _
      (hl 0 _ _ _ _ (by dsimp only; omega) (by dsimp only; omega)) (hl 4 _ _ _ _ (by dsimp only; omega) (by dsimp only; omega))
      (hl 8 _ _ _ _ (by dsimp only; omega) (by dsimp only; omega)) (hc 1 inb_S3x768x256_S1x768x256_1_0_0 o)
  · exact row3_tap _ _ _ _ o Y (fun ky k => W o k ky 2) _ _ _ _
      (hl 0 _ _ _ _ (by dsimp only; omega) (by dsimp only; omega)) (hl 4 _ _ _ _ (by dsimp only; omega) (by dsimp only; omega))
      (hl 8 _ _ _ _ (by dsimp only; omega) (by dsimp only; omega)) (hc 2 inb_S3x768x256_S1x768x256_2_0_0 o)

/-- The kernel adds the per-channel taps column by column; the sum is the same. -/
theorem nine_comm' (t00 t01 t02 t10 t11 t12 t20 t21 t22 b : EReal) :
    (t00 + t10 + t20) + (t01 + t11 + t21) + (t02 + t12 + t22) + b
      = t00 + t01 + t02 + t10 + t11 + t12 + t20 + t21 + t22 + b := by
  abel

/-- The per-channel convolution: row `r` of the strip is picture row `32 n + r`. -/
theorem coarseOf_at (n : Fin 4) (xs : Vec Ideal S44x144x256 .f32) (wd : Vec Ideal S9x256 .f32) (bs : Vec Ideal S4x256 .f32)
    (X : Fin 256 → Plane) (W : Fin 256 → Fin 3 → Fin 3 → EReal) (b : Fin 256 → EReal)
    (hxs : ∀ (r : Fin 44) (w : Fin 144) (c : Fin 256), 8 ≤ w.val →
      xs (ix3 r w c) = at0 (X c) ((32 * n.val - 6 : ℤ) + r.val) ((w.val : ℤ) - 10))
    (hw : ∀ (ky kx : Fin 3) (c : Fin 256), wd (ix2 ⟨ky.val * 3 + kx.val, by omega⟩ c) = W c ky kx)
    (hb : ∀ o : Fin 256, bs (ix2 2 o) = b o) (o : Fin 256) (r : Fin 32) (p : Fin 128) :
    max (coarseOf xs wd bs (ix2 ⟨r.val * 128 + p.val, by omega⟩ o)) 0 = dwise X W b o ⟨32 * n.val + r.val, by omega⟩ p := by
  have hp := p.isLt
  have hr := r.isLt
  have hn := n.isLt
  unfold coarseOf
  refine congrArg₂ max ((pay22_at _ _ _ _ _ _ _ _ _ _ _ _ _ r p o).trans (Eq.trans ?_ (nine_comm' _ _ _ _ _ _ _ _ _ _))) rfl
  have hb0 := (brow_at bs 2 inb_S4x256_S1x256_2_0 o).trans (hb o)
  have hl : ∀ (d : ℕ) (inb : ∀ a, (![d, 8, 0] : Fin 3 → ℕ) a + S32x136x256.size a ≤ S44x144x256.size a) (w : Fin 136) (y x : ℤ),
      (32 * n.val - 6 : ℤ) + d + r.val = y → (w.val : ℤ) - 2 = x →
      xs32 xs ![d, 8, 0] inb (ix3 r w o) = at0 (X o) y x :=
    fun d inb w y x hy hx => by subst hy hx; exact xs32_at xs X _ hxs d inb r w o
  have hd := drow_at wd W hw
  refine congrArg₂ (· + ·) (congrArg₂ (· + ·) (congrArg₂ (· + ·) ?_ ?_) ?_) hb0
  · exact congrArg₂ (· + ·) (congrArg₂ (· + ·)
      (congrArg₂ (· * ·) (hl 5 _ _ _ _ (by dsimp only; omega) (by dsimp only; omega)) (hd 0 0 0 rfl _ o))
      (congrArg₂ (· * ·) (hl 6 _ _ _ _ (by dsimp only; omega) (by dsimp only; omega)) (hd 1 0 3 rfl _ o)))
      (congrArg₂ (· * ·) (hl 7 _ _ _ _ (by dsimp only; omega) (by dsimp only; omega)) (hd 2 0 6 rfl _ o))
  · exact congrArg₂ (· + ·) (congrArg₂ (· + ·)
      (congrArg₂ (· * ·) (hl 5 _ _ _ _ (by dsimp only; omega) (by dsimp only; omega)) (hd 0 1 1 rfl _ o))
      (congrArg₂ (· * ·) (hl 6 _ _ _ _ (by dsimp only; omega) (by dsimp only; omega)) (hd 1 1 4 rfl _ o)))
      (congrArg₂ (· * ·) (hl 7 _ _ _ _ (by dsimp only; omega) (by dsimp only; omega)) (hd 2 1 7 rfl _ o))
  · exact congrArg₂ (· + ·) (congrArg₂ (· + ·)
      (congrArg₂ (· * ·) (hl 5 _ _ _ _ (by dsimp only; omega) (by dsimp only; omega)) (hd 0 2 2 rfl _ o))
      (congrArg₂ (· * ·) (hl 6 _ _ _ _ (by dsimp only; omega) (by dsimp only; omega)) (hd 1 2 5 rfl _ o)))
      (congrArg₂ (· * ·) (hl 7 _ _ _ _ (by dsimp only; omega) (by dsimp only; omega)) (hd 2 2 8 rfl _ o))

/-- THE BLOCK: at channel `o` and position `(r, p)` of strip `n` it is the whole computation at picture row `32 n + r`. -/
theorem blockOf_at (n : Fin 4) (xr : Vec Ideal S256x5632 .f32) (cm : Vec Ideal S1x4096x1 .f32) (w1 w2 : Vec Ideal S3x768x256 .f32)
    (wd : Vec Ideal S9x256 .f32) (wp : Vec Ideal S256x256 .f32) (bs : Vec Ideal S4x256 .f32)
    (X : Fin 256 → Plane) (W1 W2 : Fin 256 → Fin 256 → Fin 3 → Fin 3 → EReal) (WD : Fin 256 → Fin 3 → Fin 3 → EReal)
    (WP : Fin 256 → Fin 256 → EReal) (b1 b2 bd bp : Fin 256 → EReal)
    (hx : ∀ (c : Fin 256) (r : Fin 44) (w : Fin 128),
      xr (ix2 c ⟨r.val * 128 + w.val, by omega⟩) = at0 (X c) ((32 * n.val - 6 : ℤ) + r.val) w.val)
    (hw1 : ∀ (kx ky : Fin 3) (k o : Fin 256), w1 (ix3 kx ⟨ky.val * 256 + k.val, by omega⟩ o) = W1 o k ky kx)
    (hw2 : ∀ (kx ky : Fin 3) (k o : Fin 256), w2 (ix3 kx ⟨ky.val * 256 + k.val, by omega⟩ o) = W2 o k ky kx)
    (hwd : ∀ (ky kx : Fin 3) (c : Fin 256), wd (ix2 ⟨ky.val * 3 + kx.val, by omega⟩ c) = WD c ky kx)
    (hwp : ∀ k o : Fin 256, wp (ix2 k o) = WP o k)
    (hb1 : ∀ o : Fin 256, bs (ix2 0 o) = b1 o) (hb2 : ∀ o : Fin 256, bs (ix2 1 o) = b2 o)
    (hbd : ∀ o : Fin 256, bs (ix2 2 o) = bd o) (hbp : ∀ o : Fin 256, bs (ix2 3 o) = bp o)
    (o : Fin 256) (r : Fin 32) (p : Fin 128) :
    blockOf (Scalar.muli (BitVec.ofNat 32 n.val) 32#32) xr cm w1 w2 wd wp bs (ix3 0 o ⟨r.val * 128 + p.val, by omega⟩)
      = if Ideal.ofBits .f32 0x3F000000#32 < cm (ix3 0 ⟨r.val * 128 + p.val, by omega⟩ 0) then
          res 4 (res 2 X W1 b1) W2 b2 o ⟨32 * n.val + r.val, by omega⟩ p
        else pwise (dwise X WD bd) WP bp o ⟨32 * n.val + r.val, by omega⟩ p := by
  have hxs := xsOf_at xr X _ hx
  have hf := f1Of_at _ _ _ (fine1Of_at n (xsOf xr) w1 bs X W1 b1 hxs hw1 hb1)
  unfold blockOf
  refine (pay1_at _ _ _ _ _ ⟨r.val * 128 + p.val, by omega⟩ o).trans ?_
  rw [fine2Of_at n _ w2 bs _ W2 b2 hf hw2 hb2 o r p]
  refine congrArg₂ (ite _) rfl ?_
  refine congrArg₂ max (congrArg₂ (· + ·) ?_ ((brow_at bs 3 inb_S4x256_S1x256_3_0 o).trans (hbp o))) rfl
  exact Finset.sum_congr rfl fun k _ => congrArg₂ (· * ·) (coarseOf_at n (xsOf xr) wd bs X WD bd hxs hwd hbd k r p) (hwp k o)

end Cert.KernelIdeal.Blk
-- ==== Proof.KRows.lean ====
module

public import proofs.«01_k».proof.Proof.KBlock
public import proofs.«01_k».proof.Proof.Gen.KernelIdeal.Frame
public import Idealize.ShloMosaic.Lib.ValueLayout

/-!
# The rows a grid point stages, and the block it leaves

A grid point copies the picture rows `32 n - 6, …, 32 n + 37` of one image. The first strip has no rows above the picture and
the last none below it: there the kernel stores zeros instead. The three cases leave the same: row `r` is picture row
`32 n - 6 + r`, zero where the picture has none. So each point stores `blockOf` of such rows (`outs_eq`).
-/

@[expose] public section

set_option maxRecDepth 16384

noncomputable section

namespace Cert.KernelIdeal.Blk

open Idealize.ShloMosaic Idealize.ShloMosaic.TcCoe Idealize.SL.Sem Idealize.ShloMosaic.Tactic
open Cert.KernelIdeal Cert.KernelIdeal.Gen Cert.Spec

theorem off3 : (![0, 0, 0] : Fin 3 → ℕ) = fun _ => 0 := funext fun a => by fin_cases a <;> rfl
theorem off2 : (![0, 0] : Fin 2 → ℕ) = fun _ => 0 := funext fun a => by fin_cases a <;> rfl

/-- One image of the flattened pictures, as planes. -/
def flatPic (f : (View.whole main_v14).ty.Contents (Elt Ideal)) (g : Fin 8) (c : Fin 256) : Plane :=
  fun h w => f (ix3 g c ⟨h.val * 128 + w.val, by omega⟩)

/-- What a copy of `n` positions from position `o2` of image `o0` brings. -/
theorem copy_at (n : ℕ) (o0 o2 : ℕ) (inb : ∀ a, (![o0, 0, o2] : Fin 3 → ℕ) a + (![1, 256, n] : Fin 3 → ℕ) a ≤ S8x256x16384.size a)
    (h : (⟨2, ![256, n]⟩ : Shape).numel = (⟨3, ![1, 256, n]⟩ : Shape).numel)
    (f : (View.whole main_v14).ty.Contents (Elt Ideal)) (a : Fin 256) (b : Fin n) :
    View.read (Elt Ideal) (((View.whole main_v14).slice (Rect.unit (s := S8x256x16384) ![o0, 0, o2] ![1, 256, n] inb)).reshape ⟨2, ![256, n]⟩ h) f (ix2 a b)
      = f (ix3 ⟨o0, by have := inb 0; exact this⟩ a ⟨o2 + b.val, by have : o2 + n ≤ 16384 := inb 2; omega⟩) := by
  refine (congrArg (fun y => f ((Rect.unit (s := S8x256x16384) ![o0, 0, o2] ![1, 256, n] inb).emb y)) (ValueIdx.reshapeEquiv_ix2_1ab h a b)).trans ?_
  refine congrArg f (funext fun x => Fin.ext ?_)
  refine (Rect.emb_apply _ _ x).trans ?_
  match x with
  | ⟨0, _⟩ => show o0 + 1 * 0 = o0; omega
  | ⟨1, _⟩ => show 0 + 1 * a.val = a.val; omega
  | ⟨2, _⟩ => show o2 + 1 * b.val = o2 + b.val; omega

/-- The same in picture rows: a copy from the start of row `q` brings whole rows. -/
theorem copy_rows (n q : ℕ) (o0 o2 : ℕ) (g : Fin 8) (hg : o0 = g.val) (ho : o2 = q * 128)
    (inb : ∀ a, (![o0, 0, o2] : Fin 3 → ℕ) a + (![1, 256, n] : Fin 3 → ℕ) a ≤ S8x256x16384.size a)
    (h : (⟨2, ![256, n]⟩ : Shape).numel = (⟨3, ![1, 256, n]⟩ : Shape).numel)
    (f : (View.whole main_v14).ty.Contents (Elt Ideal)) (a : Fin 256) (b : Fin n) :
    View.read (Elt Ideal) (((View.whole main_v14).slice (Rect.unit (s := S8x256x16384) ![o0, 0, o2] ![1, 256, n] inb)).reshape ⟨2, ![256, n]⟩ h) f (ix2 a b)
      = at0 (flatPic f g a) (q + (b.val / 128 : ℕ)) (b.val % 128 : ℕ) := by
  have hn : o2 + n ≤ 16384 := inb 2
  have hb := b.isLt
  subst hg ho
  refine (copy_at n _ _ inb h f a b).trans ?_
  refine Eq.trans (congrArg f ((ix3_inj ..).2 ⟨rfl, rfl, Fin.ext ?_⟩))
    (at0_in (flatPic f g a) ⟨q + b.val / 128, by omega⟩ ⟨b.val % 128, by omega⟩ _ _ (by push_cast; rfl) rfl).symm
  show q * 128 + b.val = (q + b.val / 128) * 128 + b.val % 128
  omega

/-- The first strip: zeros above the picture, then its first 38 rows. -/
theorem rows_first (X : Fin 256 → Plane) (v : Vec Ideal S256x4864 .f32)
    (hv : ∀ (a : Fin 256) (b : Fin 4864), v (ix2 a b) = at0 (X a) ((0 : ℕ) + (b.val / 128 : ℕ)) (b.val % 128 : ℕ)) (c : Fin 256) (k : Fin 5632) :
    View.canon (Val := Elt Ideal) (s := S256x5632) (e := .f32)
      [⟨Rect.unit (s := S256x5632) ![0, 768] S256x4864.size inb_S256x5632_S256x4864_0_768, v⟩,
       ⟨Rect.unit (s := S256x5632) ![0, 0] S256x768.size inb_S256x5632_S256x768_0_0, k0_pay2 (F := Ideal)⟩] (ix2 c k)
      = at0 (X c) (-6 + (k.val / 128 : ℕ)) (k.val % 128 : ℕ) := by
  refine View.canon_apply_of_pieces (S := S256x5632) (e := .f32) (Val := Elt Ideal)
    (fun j => at0 (X (j 0)) (-6 + (((j 1).val / 128 : ℕ) : ℤ)) (((j 1).val % 128 : ℕ) : ℤ)) _ ?_ (ix2 c k) ?_
  · intro p hp
    simp only [List.mem_cons, List.not_mem_nil, or_false] at hp
    rcases hp with rfl | rfl
    · intro x
      obtain ⟨a, b, rfl⟩ : ∃ (a : Fin 256) (b : Fin 4864), x = ix2 a b := ⟨x 0, x 1, eq_ix2 x⟩
      refine (hv a b).trans ?_
      have e0 : ((Rect.unit (s := S256x5632) ![0, 768] S256x4864.size inb_S256x5632_S256x4864_0_768).emb (ix2 a b)) 0 = a := by
        refine Fin.ext ?_; rw [Rect.emb_apply]; show 0 + 1 * a.val = a.val; omega
      have e1 : (((Rect.unit (s := S256x5632) ![0, 768] S256x4864.size inb_S256x5632_S256x4864_0_768).emb (ix2 a b)) 1).val = 768 + b.val := by
        rw [Rect.emb_apply]; show 768 + 1 * b.val = 768 + b.val; omega
      dsimp only
      rw [e0, e1]
      congr 1 <;> omega
    · intro x
      refine (pay2_at x).trans (at0_out _ _ _ ?_).symm
      have hx1 : (x 1).val < 768 := (x 1).isLt
      have e1 : (((Rect.unit (s := S256x5632) ![0, 0] S256x768.size inb_S256x5632_S256x768_0_0).emb x) 1).val = (x 1).val := by
        rw [Rect.emb_apply]; show 0 + 1 * (x 1).val = (x 1).val; omega
      rw [e1]; omega
  · have hk := k.isLt
    have hc := c.isLt
    by_cases h1 : k.val < 768
    · refine ⟨_, List.mem_cons_of_mem _ List.mem_cons_self, ?_⟩
      rw [Rect.mem_set_unit, Fin.forall_fin_two]
      exact ⟨⟨Nat.zero_le _, by show c.val < 0 + 256; omega⟩, ⟨Nat.zero_le _, by show k.val < 0 + 768; omega⟩⟩
    · refine ⟨_, List.mem_cons_self, ?_⟩
      rw [Rect.mem_set_unit, Fin.forall_fin_two]
      exact ⟨⟨Nat.zero_le _, by show c.val < 0 + 256; omega⟩, ⟨by show 768 ≤ k.val; omega, by show k.val < 768 + 4864; omega⟩⟩

/-- The last strip: the last 38 rows, then zeros below the picture. -/
theorem rows_last (X : Fin 256 → Plane) (v : Vec Ideal S256x4864 .f32)
    (hv : ∀ (a : Fin 256) (b : Fin 4864), v (ix2 a b) = at0 (X a) ((90 : ℕ) + (b.val / 128 : ℕ)) (b.val % 128 : ℕ)) (c : Fin 256) (k : Fin 5632) :
    View.canon (Val := Elt Ideal) (s := S256x5632) (e := .f32)
      [⟨Rect.unit (s := S256x5632) ![0, 0] S256x4864.size inb_S256x5632_S256x4864_0_0, v⟩,
       ⟨Rect.unit (s := S256x5632) ![0, 4864] S256x768.size inb_S256x5632_S256x768_0_4864, k0_pay3 (F := Ideal)⟩] (ix2 c k)
      = at0 (X c) (90 + (k.val / 128 : ℕ)) (k.val % 128 : ℕ) := by
  refine View.canon_apply_of_pieces (S := S256x5632) (e := .f32) (Val := Elt Ideal)
    (fun j => at0 (X (j 0)) (90 + (((j 1).val / 128 : ℕ) : ℤ)) (((j 1).val % 128 : ℕ) : ℤ)) _ ?_ (ix2 c k) ?_
  · intro p hp
    simp only [List.mem_cons, List.not_mem_nil, or_false] at hp
    rcases hp with rfl | rfl
    · intro x
      obtain ⟨a, b, rfl⟩ : ∃ (a : Fin 256) (b : Fin 4864), x = ix2 a b := ⟨x 0, x 1, eq_ix2 x⟩
      refine (hv a b).trans ?_
      have e0 : ((Rect.unit (s := S256x5632) ![0, 0] S256x4864.size inb_S256x5632_S256x4864_0_0).emb (ix2 a b)) 0 = a := by
        refine Fin.ext ?_; rw [Rect.emb_apply]; show 0 + 1 * a.val = a.val; omega
      have e1 : (((Rect.unit (s := S256x5632) ![0, 0] S256x4864.size inb_S256x5632_S256x4864_0_0).emb (ix2 a b)) 1).val = b.val := by
        rw [Rect.emb_apply]; show 0 + 1 * b.val = b.val; omega
      dsimp only
      rw [e0, e1]
      congr 1
    · intro x
      refine (pay3_at x).trans (at0_out _ _ _ ?_).symm
      have e1 : (((Rect.unit (s := S256x5632) ![0, 4864] S256x768.size inb_S256x5632_S256x768_0_4864).emb x) 1).val = 4864 + (x 1).val := by
        rw [Rect.emb_apply]; show 4864 + 1 * (x 1).val = 4864 + (x 1).val; omega
      rw [e1]; omega
  · have hk := k.isLt
    have hc := c.isLt
    by_cases h1 : k.val < 4864
    · refine ⟨_, List.mem_cons_self, ?_⟩
      rw [Rect.mem_set_unit, Fin.forall_fin_two]
      exact ⟨⟨Nat.zero_le _, by show c.val < 0 + 256; omega⟩, ⟨Nat.zero_le _, by show k.val < 0 + 4864; omega⟩⟩
    · refine ⟨_, List.mem_cons_of_mem _ List.mem_cons_self, ?_⟩
      rw [Rect.mem_set_unit, Fin.forall_fin_two]
      exact ⟨⟨Nat.zero_le _, by show c.val < 0 + 256; omega⟩, ⟨by show 4864 ≤ k.val; omega, by show k.val < 4864 + 768; omega⟩⟩

variable (m : (ℓ : Loc nD τ sig) → Buf (Elt Ideal) ℓ)

/-- The point's image. -/
def img (t : Fin cfg0.N) : Fin 8 := ⟨t.val / 4, by have : t.val < 32 := Nat.lt_of_lt_of_eq t.isLt N_0; omega⟩
/-- The point's strip. -/
def strip (t : Fin cfg0.N) : Fin 4 := ⟨t.val % 4, Nat.mod_lt _ (by decide)⟩

theorem coords0 (t : Fin cfg0.N) : (grid0.coords t 0).val = t.val / 4 := by
  have ht : t.val < 32 := Nat.lt_of_lt_of_eq t.isLt N_0
  have e : (grid0.coords t 0).val = t.val / 4 % 8 := Pipeline.Grid.coords_val t 0 (by decide) rfl
  omega

theorem coords1 (t : Fin cfg0.N) : (grid0.coords t 1).val = t.val % 4 := by
  have e : (grid0.coords t 1).val = t.val / 1 % 4 := Pipeline.Grid.coords_val t 1 (by decide) rfl
  omega

theorem img_toNat (t : Fin cfg0.N) : (BitVec.ofNat 32 (grid0.coords t 0).val).toNat = (img t).val := by
  have ht : t.val < 32 := Nat.lt_of_lt_of_eq t.isLt N_0
  rw [coords0, BitVec.toNat_ofNat]
  show t.val / 4 % 2 ^ 32 = t.val / 4
  omega

/-- The rows a point stages: what `blockOf` is given. -/
def Rows (c : Dev nD) (t : Fin cfg0.N) (xr : Vec Ideal S256x5632 .f32) : Prop :=
  ∀ (a : Fin 256) (r : Fin 44) (w : Fin 128),
    xr (ix2 a ⟨r.val * 128 + w.val, by omega⟩) = at0 (flatPic (V m c main_v14) (img t) a) ((32 * (strip t).val - 6 : ℤ) + r.val) w.val

/-- A point of the first strip stores `blockOf` of its rows. -/
theorem outs_first (c : Dev nD) (t : Fin cfg0.N) (h0 : t.val % 4 = 0) (h1 : ¬t.val % 4 = 3) (h2 : ¬(1 ≤ t.val % 4 ∧ t.val % 4 ≤ 2)) :
    ∃ xr, Rows m c t xr ∧ outsAt0 m c t.val t.isLt = blockOf (Scalar.muli (BitVec.ofNat 32 (grid0.coords t 1).val) 32#32) xr
      (iblk m c 0 t) (iblk m c 1 t) (iblk m c 2 t) (iblk m c 3 t) (iblk m c 4 t) (iblk m c 5 t) := by
  rw [outsAt0_A m c t h0 h1 h2]
  unfold out0_A_6
  rw [View.read_writes_junk_eq_canon]
  unfold kernelRun0_A
  dsimp only
  sl_unfold_words
  rw [View.canon_unit_zero off3]
  simp only [View.readCov_eq_canon', View.readAt_eq_ld, Memref.IsWhole.read_unread]
  rw [View.ld_unit_zero (S := S1x4096x1) off3, View.ld_unit_zero (S := S256x256) off2]
  refine ⟨View.ld (Val := Elt Ideal) (S := S256x5632) (e' := .f32) (View.canon _)
    (Rect.unit (s := S256x5632) ![0, 0] S256x5632.size inb_S256x5632_S256x5632_0_0), ?_, rfl⟩
  · intro a r w
    have hr := r.isLt
    have hw := w.isLt
    rw [View.ld_unit_zero (S := S256x5632) off2]
    refine (rows_first (flatPic (V m c main_v14) (img t)) _
      (copy_rows 4864 0 _ 0 (img t) (img_toNat t) rfl _ _ (V m c main_v14)) a _).trans ?_
    have hs : (strip t).val = 0 := h0
    rw [hs]
    refine congrArg₂ (at0 _) ?_ ?_ <;> dsimp only <;> omega

/-- A point of the middle strips stores `blockOf` of its rows. -/
theorem outs_middle (c : Dev nD) (t : Fin cfg0.N) (h0 : ¬t.val % 4 = 0) (h1 : ¬t.val % 4 = 3) (h2 : 1 ≤ t.val % 4 ∧ t.val % 4 ≤ 2) :
    ∃ xr, Rows m c t xr ∧ outsAt0 m c t.val t.isLt = blockOf (Scalar.muli (BitVec.ofNat 32 (grid0.coords t 1).val) 32#32) xr
      (iblk m c 0 t) (iblk m c 1 t) (iblk m c 2 t) (iblk m c 3 t) (iblk m c 4 t) (iblk m c 5 t) := by
  rw [outsAt0_B m c t h0 h1 h2]
  unfold out0_B_6
  rw [View.read_writes_junk_eq_canon]
  unfold kernelRun0_B
  dsimp only
  sl_unfold_words
  rw [View.canon_unit_zero off3]
  simp only [View.readCov_eq_canon', View.readAt_eq_ld, Memref.IsWhole.read_unread]
  rw [View.ld_unit_zero (S := S1x4096x1) off3, View.ld_unit_zero (S := S256x256) off2]
  refine ⟨View.ld (Val := Elt Ideal) (S := S256x5632) (e' := .f32) (View.canon _)
    (Rect.unit (s := S256x5632) ![0, 0] S256x5632.size inb_S256x5632_S256x5632_0_0), ?_, rfl⟩
  · intro a r w
    have hr := r.isLt
    have hw := w.isLt
    have hs : (strip t).val = t.val % 4 := rfl
    have ho : (Scalar.muli (Scalar.subi (Scalar.muli (BitVec.ofNat 32 (grid0.coords t 1).val) 32#32) 6#32) 128#32).toNat
        = (32 * (t.val % 4) - 6) * 128 := by
      rw [coords1]
      obtain e | e : t.val % 4 = 1 ∨ t.val % 4 = 2 := by omega
      · rw [e]; rfl
      · rw [e]; rfl
    rw [View.ld_unit_zero (S := S256x5632) off2, View.canon_unit_zero (S := S256x5632) off2]
    refine (copy_rows 5632 (32 * (t.val % 4) - 6) _ _ (img t) (img_toNat t) ho _ _ (V m c main_v14) a _).trans ?_
    rw [hs]
    refine congrArg₂ (at0 _) ?_ ?_ <;> dsimp only <;> omega

/-- A point of the last strip stores `blockOf` of its rows. -/
theorem outs_last (c : Dev nD) (t : Fin cfg0.N) (h0 : ¬t.val % 4 = 0) (h1 : t.val % 4 = 3) (h2 : ¬(1 ≤ t.val % 4 ∧ t.val % 4 ≤ 2)) :
    ∃ xr, Rows m c t xr ∧ outsAt0 m c t.val t.isLt = blockOf (Scalar.muli (BitVec.ofNat 32 (grid0.coords t 1).val) 32#32) xr
      (iblk m c 0 t) (iblk m c 1 t) (iblk m c 2 t) (iblk m c 3 t) (iblk m c 4 t) (iblk m c 5 t) := by
  rw [outsAt0_C m c t h0 h1 h2]
  unfold out0_C_6
  rw [View.read_writes_junk_eq_canon]
  unfold kernelRun0_C
  dsimp only
  sl_unfold_words
  rw [View.canon_unit_zero off3]
  simp only [View.readCov_eq_canon', View.readAt_eq_ld, Memref.IsWhole.read_unread]
  rw [View.ld_unit_zero (S := S1x4096x1) off3, View.ld_unit_zero (S := S256x256) off2]
  refine ⟨View.ld (Val := Elt Ideal) (S := S256x5632) (e' := .f32) (View.canon _)
    (Rect.unit (s := S256x5632) ![0, 0] S256x5632.size inb_S256x5632_S256x5632_0_0), ?_, rfl⟩
  · intro a r w
    have hr := r.isLt
    have hw := w.isLt
    rw [View.ld_unit_zero (S := S256x5632) off2]
    refine (rows_last (flatPic (V m c main_v14) (img t)) _
      (copy_rows 4864 90 _ 11520 (img t) (img_toNat t) rfl _ _ (V m c main_v14)) a _).trans ?_
    have hs : (strip t).val = 3 := h1
    rw [hs]
    refine congrArg₂ (at0 _) ?_ ?_ <;> dsimp only <;> omega

/-- EVERY POINT stores `blockOf` of the rows it staged. -/
theorem outs_eq (c : Dev nD) (t : Fin cfg0.N) :
    ∃ xr, Rows m c t xr ∧ outsAt0 m c t.val t.isLt = blockOf (Scalar.muli (BitVec.ofNat 32 (strip t).val) 32#32) xr
      (iblk m c 0 t) (iblk m c 1 t) (iblk m c 2 t) (iblk m c 3 t) (iblk m c 4 t) (iblk m c 5 t) := by
  have e : (strip t).val = (grid0.coords t 1).val := (coords1 t).symm
  rw [e]
  by_cases h0 : t.val % 4 = 0
  · exact outs_first m c t h0 (by omega) (by omega)
  · by_cases h1 : t.val % 4 = 3
    · exact outs_last m c t h0 h1 (by omega)
    · exact outs_middle m c t h0 h1 (by omega)

end Cert.KernelIdeal.Blk
-- ==== Proof.KInput.lean ====
module

public import proofs.«01_k».proof.Proof.KRows
public import Idealize.ShloMosaic.Lib.Claim
public import Idealize.ShloMosaic.Lib.Pointwise
public import Idealize.ShloMosaic.Lib.Pipeline.ValueKit.Point

/-!
# What the kernel is given

Before the kernel runs, the program lays the arguments out anew: the dense weights by tap and input channel, the depthwise
weights by tap, the four biases as the rows of one table, and pictures and condition with rows and columns in one axis. Each
array so laid out is read here at an index as an entry of an argument, and then each block a grid point is handed.
-/

@[expose] public section

set_option maxRecDepth 16384

noncomputable section

namespace Cert.KernelIdeal.Inp

open Idealize.ShloMosaic Idealize.ShloMosaic.TcCoe Idealize.SL.Sem Idealize.ShloMosaic.Tactic
open Cert.KernelIdeal Cert.KernelIdeal.Gen Cert.KernelIdeal.Blk Cert.Spec

variable (m : (ℓ : Loc nD τ sig) → Buf (Elt Ideal) ℓ) (c : Dev nD)

/-! ## The arrays -/

/-- The pictures. -/
theorem arr14 (g : Fin 8) (k : Fin 256) (h w : Fin 128) :
    V m c main_v14 (ix3 g k ⟨h.val * 128 + w.val, by omega⟩) = m ((c.tc : Thread nD τ).loc main_arg0) (ix4 g k h w) := by
  simp only [V, V0, hostOps0, List.flatten_cons, List.flatten_nil, List.append_nil]
  after_results
  pointwise

/-- The condition. -/
theorem arr15 (g : Fin 8) (h w : Fin 128) :
    V m c main_v15 (ix3 g ⟨h.val * 128 + w.val, by omega⟩ 0) = m ((c.tc : Thread nD τ).loc main_arg1) (ix4 g 0 h w) := by
  simp only [V, V0, hostOps0, List.flatten_cons, List.flatten_nil, List.append_nil]
  after_results
  pointwise

/-- The first dense weights. -/
theorem arr1 (kx ky : Fin 3) (k o : Fin 256) :
    V m c main_v1 (ix3 kx ⟨ky.val * 256 + k.val, by omega⟩ o) = m ((c.tc : Thread nD τ).loc main_arg2) (ix4 o k ky kx) := by
  simp only [V, V0, hostOps0, List.flatten_cons, List.flatten_nil, List.append_nil]
  after_results
  pointwise

/-- The second dense weights. -/
theorem arr3 (kx ky : Fin 3) (k o : Fin 256) :
    V m c main_v3 (ix3 kx ⟨ky.val * 256 + k.val, by omega⟩ o) = m ((c.tc : Thread nD τ).loc main_arg4) (ix4 o k ky kx) := by
  simp only [V, V0, hostOps0, List.flatten_cons, List.flatten_nil, List.append_nil]
  after_results
  pointwise

/-- The depthwise weights. -/
theorem arr6 (ky kx : Fin 3) (k : Fin 256) :
    V m c main_v6 (ix2 ⟨ky.val * 3 + kx.val, by omega⟩ k) = m ((c.tc : Thread nD τ).loc main_arg6) (ix4 k 0 ky kx) := by
  simp only [V, V0, hostOps0, List.flatten_cons, List.flatten_nil, List.append_nil]
  after_results
  pointwise

/-- The pointwise weights. -/
theorem arr8 (k o : Fin 256) :
    V m c main_v8 (ix2 k o) = m ((c.tc : Thread nD τ).loc main_arg8) (ix4 o k 0 0) := by
  simp only [V, V0, hostOps0, List.flatten_cons, List.flatten_nil, List.append_nil]
  after_results
  pointwise

/-- Row 0 of the bias table: the bias of the first dense convolution. -/
theorem arr13_0 (o : Fin 256) :
    V m c main_v13 (ix2 0 o) = m ((c.tc : Thread nD τ).loc main_arg3) (ix1 o) := by
  simp only [V, V0, hostOps0, List.flatten_cons, List.flatten_nil, List.append_nil]
  after_results
  pointwise
  after_results_simp
  pointwise

/-- Row 1 of the bias table: the bias of the second dense convolution. -/
theorem arr13_1 (o : Fin 256) :
    V m c main_v13 (ix2 1 o) = m ((c.tc : Thread nD τ).loc main_arg5) (ix1 o) := by
  simp only [V, V0, hostOps0, List.flatten_cons, List.flatten_nil, List.append_nil]
  after_results
  pointwise
  after_results_simp
  pointwise

/-- Row 2 of the bias table: the bias of the depthwise convolution. -/
theorem arr13_2 (o : Fin 256) :
    V m c main_v13 (ix2 2 o) = m ((c.tc : Thread nD τ).loc main_arg7) (ix1 o) := by
  simp only [V, V0, hostOps0, List.flatten_cons, List.flatten_nil, List.append_nil]
  after_results
  pointwise
  after_results_simp
  pointwise

/-- Row 3 of the bias table: the bias of the pointwise convolution. -/
theorem arr13_3 (o : Fin 256) :
    V m c main_v13 (ix2 3 o) = m ((c.tc : Thread nD τ).loc main_arg9) (ix1 o) := by
  simp only [V, V0, hostOps0, List.flatten_cons, List.flatten_nil, List.append_nil]
  after_results
  pointwise
  after_results_simp
  pointwise

/-! ## The blocks -/

/-- Where each input window's block lies: the condition's by image and strip, the others' at the start. -/
theorem places : ∀ t : Fin cfg0.N, win0_0.index t = ![t.val / 4, t.val % 4, 0] ∧ win0_1.index t = ![0, 0, 0]
    ∧ win0_2.index t = ![0, 0, 0] ∧ win0_3.index t = ![0, 0] ∧ win0_4.index t = ![0, 0] ∧ win0_5.index t = ![0, 0] :=
  (by decide +kernel : ∀ t : Fin grid0.N, win0_0.index t = ![t.val / 4, t.val % 4, 0] ∧ win0_1.index t = ![0, 0, 0]
    ∧ win0_2.index t = ![0, 0, 0] ∧ win0_3.index t = ![0, 0] ∧ win0_4.index t = ![0, 0] ∧ win0_5.index t = ![0, 0])

/-- A strip's rows of the condition. -/
theorem blk0_at (t : Fin cfg0.N) (r : Fin 32) (p : Fin 128) :
    iblk m c 0 t (ix3 0 ⟨r.val * 128 + p.val, by omega⟩ 0)
      = m ((c.tc : Thread nD τ).loc main_arg1) (ix4 (img t) 0 ⟨32 * (strip t).val + r.val, by omega⟩ p) := by
  refine Eq.trans ?_ (arr15 m c (img t) ⟨32 * (strip t).val + r.val, by omega⟩ p)
  blk_ext [iblk, places t, img, strip]

/-- Window 1 hands over its whole array. -/
theorem blk1_eq (t : Fin cfg0.N) (y : S3x768x256.Idx) : iblk m c 1 t y = V m c main_v1 y := by
  blk_ext [iblk, places t]

/-- Window 2 hands over its whole array. -/
theorem blk2_eq (t : Fin cfg0.N) (y : S3x768x256.Idx) : iblk m c 2 t y = V m c main_v3 y := by
  blk_ext [iblk, places t]

/-- Window 3 hands over its whole array. -/
theorem blk3_eq (t : Fin cfg0.N) (y : S9x256.Idx) : iblk m c 3 t y = V m c main_v6 y := by
  blk_ext [iblk, places t]

/-- Window 4 hands over its whole array. -/
theorem blk4_eq (t : Fin cfg0.N) (y : S256x256.Idx) : iblk m c 4 t y = V m c main_v8 y := by
  blk_ext [iblk, places t]

/-- Window 5 hands over its whole array. -/
theorem blk5_eq (t : Fin cfg0.N) (y : S4x256.Idx) : iblk m c 5 t y = V m c main_v13 y := by
  blk_ext [iblk, places t]

end Cert.KernelIdeal.Inp
-- ==== Proof.KArray.lean ====
module

public import proofs.«01_k».proof.Proof.KInput

/-!
# What the kernel leaves in memory

Entry by entry, the block a grid point stores is a strip of rows of the one function `answer` of the arguments. The 32 blocks
tile the output array, so after the run the array holds `answer`; the reshape that follows the kernel gives rows and columns
an axis each, and every argument is as it was.
-/

@[expose] public section

set_option maxRecDepth 16384

noncomputable section

namespace Cert.KernelIdeal.Out

open Idealize.ShloMosaic Idealize.ShloMosaic.TcCoe Idealize.SL.Sem Idealize.ShloMosaic.Tactic
open Cert.KernelIdeal Cert.KernelIdeal.Gen Cert.KernelIdeal.Blk Cert.KernelIdeal.Inp Cert.Spec

variable (m : (ℓ : Loc nD τ sig) → Buf (Elt Ideal) ℓ) (c : Dev nD)

/-- An argument as launched. -/
abbrev arg (r : Ref sig .tc) : Buf (Elt Ideal) ((c.tc : Thread nD τ).loc r) := m ((c.tc : Thread nD τ).loc r)

/-- The result: the refined picture where the condition exceeds one half, the coarse one elsewhere. -/
def answer (b : Fin 8) (o : Fin 256) (p q : Fin 128) : EReal :=
  if Ideal.ofBits .f32 0x3F000000#32 < arg m c main_arg1 (ix4 b 0 p q) then
    res 4
      (res 2 (fun k h w => arg m c main_arg0 (ix4 b k h w)) (fun o k ky kx => arg m c main_arg2 (ix4 o k ky kx))
        (fun o => arg m c main_arg3 (ix1 o)))
      (fun o k ky kx => arg m c main_arg4 (ix4 o k ky kx)) (fun o => arg m c main_arg5 (ix1 o)) o p q
  else
    pwise
      (dwise (fun k h w => arg m c main_arg0 (ix4 b k h w)) (fun k ky kx => arg m c main_arg6 (ix4 k 0 ky kx))
        (fun o => arg m c main_arg7 (ix1 o)))
      (fun o k => arg m c main_arg8 (ix4 o k 0 0)) (fun o => arg m c main_arg9 (ix1 o)) o p q

/-- The block a point stores, entry by entry. -/
theorem outs_at (t : Fin cfg0.N) (o : Fin 256) (r : Fin 32) (p : Fin 128) :
    outsAt0 m c t.val t.isLt (ix3 0 o ⟨r.val * 128 + p.val, by omega⟩)
      = answer m c (img t) o ⟨32 * (strip t).val + r.val, by omega⟩ p := by
  obtain ⟨xr, hx, e⟩ := outs_eq m c t
  have hp : flatPic (V m c main_v14) (img t) = fun k h w => arg m c main_arg0 (ix4 (img t) k h w) :=
    funext fun k => funext fun h => funext fun w => arr14 m c (img t) k h w
  unfold Rows at hx
  rw [hp] at hx
  rw [e]
  refine (blockOf_at (strip t) xr _ _ _ _ _ _ _
    (fun o k ky kx => arg m c main_arg2 (ix4 o k ky kx)) (fun o k ky kx => arg m c main_arg4 (ix4 o k ky kx))
    (fun k ky kx => arg m c main_arg6 (ix4 k 0 ky kx)) (fun o k => arg m c main_arg8 (ix4 o k 0 0))
    (fun o => arg m c main_arg3 (ix1 o)) (fun o => arg m c main_arg5 (ix1 o)) (fun o => arg m c main_arg7 (ix1 o))
    (fun o => arg m c main_arg9 (ix1 o)) hx
    (fun kx ky k o => (blk1_eq m c t _).trans (arr1 m c kx ky k o))
    (fun kx ky k o => (blk2_eq m c t _).trans (arr3 m c kx ky k o))
    (fun ky kx k => (blk3_eq m c t _).trans (arr6 m c ky kx k))
    (fun k o => (blk4_eq m c t _).trans (arr8 m c k o))
    (fun o => (blk5_eq m c t _).trans (arr13_0 m c o)) (fun o => (blk5_eq m c t _).trans (arr13_1 m c o))
    (fun o => (blk5_eq m c t _).trans (arr13_2 m c o)) (fun o => (blk5_eq m c t _).trans (arr13_3 m c o)) o r p).trans ?_
  exact congrArg (fun v : EReal => if Ideal.ofBits .f32 0x3F000000#32 < v then _ else _) (blk0_at m c t r p)

/-- The output array: rows and columns share one axis. -/
def flatAnswer : Vec Ideal S8x256x16384 .f32 := fun i =>
  answer m c (i 0) (i 1) ⟨(i 2).val / 128, Nat.div_lt_of_lt_mul (i 2).isLt⟩ ⟨(i 2).val % 128, Nat.mod_lt _ (by decide)⟩

/-- Where the output window's block lies: by image and strip. -/
theorem place6 : ∀ t : Fin cfg0.N, win0_6.index t = ![t.val / 4, 0, t.val % 4] :=
  (by decide +kernel : ∀ t : Fin grid0.N, win0_6.index t = ![t.val / 4, 0, t.val % 4])

/-- A point's block is the part of `flatAnswer` it lies over. -/
theorem outs_flat (t : Fin cfg0.N) (y : S1x256x4096.Idx) :
    outsAt0 m c t.val t.isLt y = flatAnswer m c (((cfg0.win 6).blk t).view.emb y) := by
  idx_vars y
  refine (congrArg (outsAt0 m c t.val t.isLt) ((ix3_inj ..).2 ⟨Subsingleton.elim y0 0, rfl, Fin.ext ?_⟩)).trans
    ((outs_at m c t y1 ⟨y2.val / 128, by omega⟩ ⟨y2.val % 128, by omega⟩).trans ?_)
  · show y2.val = y2.val / 128 * 128 + y2.val % 128
    omega
  have ht : t.val % 4 < 4 := Nat.mod_lt _ (by decide)
  have e : ((cfg0.win 6).blk t).view.emb (ix3 y0 y1 y2)
      = ix3 (img t) y1 (⟨t.val % 4 * 4096 + y2.val, by omega⟩ : Fin 16384) := by
    blk_ext [place6 t, img, strip]
  refine Eq.trans ?_ (congrArg (flatAnswer m c) e).symm
  refine congrArg₂ (answer m c (img t) y1) (Fin.ext ?_) (Fin.ext ?_)
  · show 32 * (t.val % 4) + y2.val / 128 = (t.val % 4 * 4096 + y2.val) / 128
    omega
  · show y2.val % 128 = (t.val % 4 * 4096 + y2.val) % 128
    omega

/-- After the run the output array holds `flatAnswer`. -/
theorem array : (dats m 0 c).arrAt 6 cfg0.N = flatAnswer m c := by
  refine (dats m 0 c).arrAt_eq_of_covers 6 _ (by decide +kernel) fun t hf y => ?_
  rw [after0_6]
  exact outs_flat m c t y

/-- The result buffer after the reshape. -/
theorem tail_at (b : Fin 8) (o : Fin 256) (p q : Fin 128) :
    Pipeline.afterTail₀ cfgs (dats m) 0 (V0 m) [hostOps1] c main_v17 (ix4 b o p q) = answer m c b o p q := by
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.tc.devRef main_v16)
      = flatAnswer m c := (Pipeline.withArrays_arr spec0 winFacts0.arr_inj c (V0 m c) _ 6).trans (array m c)
  rw [e]
  pointwise [flatAnswer]
  exact congrArg₂ (answer m c b o) (Fin.ext (show (p.val * 128 + q.val) / 128 = p.val by omega))
    (Fin.ext (show (p.val * 128 + q.val) % 128 = q.val by omega))

/-- The kernel's run: the result is `answer`, and the arguments are as launched. -/
theorem run (ρ : Dev nD → PrngReg) :
    θ_run defs (onTc (τ := τ) (main (F := Ideal))) ⟨m, fun _ => 0, ρ⟩ fun r => ∀ c : Dev nD,
      (∀ (b : Fin 8) (o : Fin 256) (p q : Fin 128), r.2.mem ((c.tc : Thread nD τ).loc main_v17) (ix4 b o p q) = answer m c b o p q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨fun b o p q => (congrFun ((h.1 c).2 main_v17 (Pipeline.mem_restRefs_of main_v17 (by decide) (by decide))) _).trans
      (tail_at m c b o p q), h.2 c⟩)
    (θ_run_and (run_main m ρ) (unchanged m ρ))

end Cert.KernelIdeal.Out
-- ==== Proof.Ref.lean ====
module

public import proofs.«01_k».proof.Proof.Gen.ReferenceIdeal.Read
public import proofs.«01_k».proof.Proof.Spec
public import Idealize.ShloMosaic.Lib.Pointwise

/-!
# What the reference computes

The reference's stages, read at an index, are the mathematics of `Spec`: its padded pictures are planes read with zero
outside, its shifted slices are taps.
-/

@[expose] public section

set_option maxRecDepth 16384

noncomputable section

namespace Cert.ReferenceIdeal.Math

open Idealize.ShloMosaic Idealize.ShloMosaic.TcCoe Idealize.SL.Sem
open Cert.ReferenceIdeal Cert.ReferenceIdeal.Read Cert.Spec

/-- The planes of image `b` of an array of pictures. -/
def pic (x : FVec Ideal S8x256x128x128 .f32) (b : Fin 8) : Fin 256 → Plane := fun c h w => x (ix4 b c h w)

/-- The dense weights as a function of output channel, input channel and tap. -/
def wts (w : FVec Ideal S256x256x3x3 .f32) : Fin 256 → Fin 256 → Fin 3 → Fin 3 → EReal := fun o c ky kx => w (ix4 o c ky kx)

/-- A bias. -/
def vec (z : FVec Ideal S256 .f32) : Fin 256 → EReal := fun o => z (ix1 o)

/-- The integer zero, as a float, is zero. -/
theorem sitofp_zero : (FloatOps.sitofp (F := Ideal) FTy.f32 0#32 : EReal) = 0 := by
  show ((((0#32 : BitVec 32).toInt : ℤ) : ℝ) : EReal) = 0
  simp

/-- What a padded picture is, in the form the reading of `pad` has it. -/
theorem padded (x : FVec Ideal S8x256x128x128 .f32) (b : Fin 8) (c : Fin 256) (d p q : ℕ) (z : EReal) (hz : z = 0)
    (e : EReal)
    (he : e = if h : (d ≤ p ∧ p - d < 128) ∧ d ≤ q ∧ q - d < 128 then x (ix4 b c ⟨p - d, h.1.2⟩ ⟨q - d, h.2.2⟩) else z) :
    e = at0 (pic x b c) ((p : ℤ) - d) ((q : ℤ) - d) := by
  subst hz
  rw [he]
  split
  · rename_i h
    exact (at0_in (pic x b c) ⟨p - d, h.1.2⟩ ⟨q - d, h.2.2⟩ _ _ (by dsimp only; omega) (by dsimp only; omega)).symm
  · rename_i h
    exact (at0_out _ _ _ (by omega)).symm

/-- The picture padded by two. -/
theorem pad2_at (x : FVec Ideal S8x256x128x128 .f32) (b : Fin 8) (c : Fin 256) (p q : Fin 132) :
    val_main_v0 (F := Ideal) x (ix4 b c p q) = at0 (pic x b c) ((p.val : ℤ) - 2) ((q.val : ℤ) - 2) := by
  refine padded x b c 2 p.val q.val _ sitofp_zero _ ?_
  pointwise [val_main_v0, val_main_call0_v0, val_main_c]

/-- The picture padded by one. -/
theorem pad1_at (x : FVec Ideal S8x256x128x128 .f32) (b : Fin 8) (c : Fin 256) (p q : Fin 130) :
    val_main_v118 (F := Ideal) x (ix4 b c p q) = at0 (pic x b c) ((p.val : ℤ) - 1) ((q.val : ℤ) - 1) := by
  refine padded x b c 1 p.val q.val _ sitofp_zero _ ?_
  pointwise [val_main_v118, val_main_call4_v0, val_main_c_1]

/-- The first residual convolution. -/
theorem fine1_at (x : FVec Ideal S8x256x128x128 .f32) (w : FVec Ideal S256x256x3x3 .f32) (z : FVec Ideal S256 .f32)
    (b : Fin 8) (o : Fin 256) (p q : Fin 128) :
    val_main_v58 (F := Ideal) x w z (ix4 b o p q) = res 2 (pic x b) (wts w) (vec z) o p q := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_call1_v0, val_main_call1_cst]
  have e2p : (2 : ℤ) + p.val - 2 = p.val := by omega
  have e2q : (2 : ℤ) + q.val - 2 = q.val := by omega
  have e4p : (4 : ℤ) + p.val - 2 = p.val + 2 := by omega
  have e4q : (4 : ℤ) + q.val - 2 = q.val + 2 := by omega
  simp only [pad2_at, Nat.cast_add, Nat.cast_ofNat, e2p, e2q, e4p, e4q]
  rfl

/-- The first convolution padded by four. -/
theorem pad4_at (x : FVec Ideal S8x256x128x128 .f32) (w : FVec Ideal S256x256x3x3 .f32) (z : FVec Ideal S256 .f32)
    (b : Fin 8) (c : Fin 256) (p q : Fin 136) :
    val_main_v59 (F := Ideal) x w z (ix4 b c p q)
      = at0 (res 2 (pic x b) (wts w) (vec z) c) ((p.val : ℤ) - 4) ((q.val : ℤ) - 4) := by
  have e : pic (val_main_v58 (F := Ideal) x w z) b c = res 2 (pic x b) (wts w) (vec z) c := by
    funext h v; exact fine1_at x w z b c h v
  rw [← e]
  refine padded (val_main_v58 (F := Ideal) x w z) b c 4 p.val q.val _ sitofp_zero _ ?_
  pointwise [val_main_v59, val_main_call2_v0, val_main_c_0]

/-- The second residual convolution. -/
theorem fine2_at (x : FVec Ideal S8x256x128x128 .f32) (w : FVec Ideal S256x256x3x3 .f32) (z : FVec Ideal S256 .f32)
    (w' : FVec Ideal S256x256x3x3 .f32) (z' : FVec Ideal S256 .f32) (b : Fin 8) (o : Fin 256) (p q : Fin 128) :
    val_main_v117 (F := Ideal) x w z w' z' (ix4 b o p q)
      = res 4 (res 2 (pic x b) (wts w) (vec z)) (wts w') (vec z') o p q := by
  pointwise [val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_call3_v0, val_main_call3_cst]
  have e4p : (4 : ℤ) + p.val - 4 = p.val := by omega
  have e4q : (4 : ℤ) + q.val - 4 = q.val := by omega
  have e8p : (8 : ℤ) + p.val - 4 = p.val + 4 := by omega
  have e8q : (8 : ℤ) + q.val - 4 = q.val + 4 := by omega
  simp only [pad4_at, fine1_at, Nat.cast_add, Nat.cast_ofNat, e4p, e4q, e8p, e8q]
  rfl

/-- The per-channel convolution. -/
theorem coarse1_at (x : FVec Ideal S8x256x128x128 .f32) (w : FVec Ideal S256x1x3x3 .f32) (z : FVec Ideal S256 .f32)
    (b : Fin 8) (o : Fin 256) (p q : Fin 128) :
    val_main_v184 (F := Ideal) x w z (ix4 b o p q)
      = dwise (pic x b) (fun c ky kx => w (ix4 c 0 ky kx)) (vec z) o p q := by
  pointwise [val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_call5_v0, val_main_call5_cst]
  have e1p : (1 : ℤ) + p.val - 1 = p.val := by omega
  have e1q : (1 : ℤ) + q.val - 1 = q.val := by omega
  have e2p : (2 : ℤ) + p.val - 1 = p.val + 1 := by omega
  have e2q : (2 : ℤ) + q.val - 1 = q.val + 1 := by omega
  simp only [pad1_at, Nat.cast_add, Nat.cast_ofNat, Nat.cast_one, e1p, e1q, e2p, e2q]
  rfl

/-- The reference's result: the choice by the complexity map. -/
theorem result_at (x : FVec Ideal S8x256x128x128 .f32) (x1 : FVec Ideal S8x1x128x128 .f32) (w1 : FVec Ideal S256x256x3x3 .f32) (z1 : FVec Ideal S256 .f32)
    (w2 : FVec Ideal S256x256x3x3 .f32) (z2 : FVec Ideal S256 .f32) (wd : FVec Ideal S256x1x3x3 .f32) (zd : FVec Ideal S256 .f32)
    (wp : FVec Ideal S256x256x1x1 .f32) (zp : FVec Ideal S256 .f32) (b : Fin 8) (o : Fin 256) (p q : Fin 128) :
    val_main_v195 (F := Ideal) x x1 w1 z1 w2 z2 wd zd wp zp (ix4 b o p q)
      = if Ideal.ofBits .f32 0x3F000000#32 < x1 (ix4 b 0 p q) then
          res 4 (res 2 (pic x b) (wts w1) (vec z1)) (wts w2) (vec z2) o p q
        else pwise (dwise (pic x b) (fun c ky kx => wd (ix4 c 0 ky kx)) (vec zd)) (fun o c => wp (ix4 o c 0 0)) (vec zp) o p q := by
  pointwise [val_main_v185, val_main_v186, val_main_v187, val_main_v188, val_main_v189, val_main_v190, val_main_v191, val_main_v192, val_main_v193, val_main_v194, val_main_v195, val_main_call6_v0, val_main_call7_v0, val_main_call7_cst, val_main_call8_v0, val_main_c_2, val_main_cst]
  simp only [fine2_at, coarse1_at]
  rfl

end Cert.ReferenceIdeal.Math
-- ==== Proof.lean ====
module

public import proofs.«01_k».proof.Defs
public import proofs.«01_k».proof.Proof.Gen.Kernel.Frame
public import proofs.«01_k».proof.Proof.KArray
public import proofs.«01_k».proof.Proof.Ref
public import Idealize.ShloMosaic.Adequacy
public import Idealize.ShloMosaic.Init

@[expose] public section

set_option maxRecDepth 16384

noncomputable section

namespace Cert.Proof

open Idealize.ShloMosaic Idealize.ShloMosaic.TcCoe Idealize.SL.Sem Idealize.ShloMosaic.Tactic Cert.Kernel

/-- The reference runs, leaves its arguments alone, and has no semaphores. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The reference's result as a function of the kernel's arguments. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v17) :=
  Cert.ReferenceIdeal.Read.val_main_v195 (F := Ideal)
    (Cert.KernelIdeal.Out.arg m c Cert.KernelIdeal.main_arg0) (Cert.KernelIdeal.Out.arg m c Cert.KernelIdeal.main_arg1)
    (Cert.KernelIdeal.Out.arg m c Cert.KernelIdeal.main_arg2) (Cert.KernelIdeal.Out.arg m c Cert.KernelIdeal.main_arg3)
    (Cert.KernelIdeal.Out.arg m c Cert.KernelIdeal.main_arg4) (Cert.KernelIdeal.Out.arg m c Cert.KernelIdeal.main_arg5)
    (Cert.KernelIdeal.Out.arg m c Cert.KernelIdeal.main_arg6) (Cert.KernelIdeal.Out.arg m c Cert.KernelIdeal.main_arg7)
    (Cert.KernelIdeal.Out.arg m c Cert.KernelIdeal.main_arg8) (Cert.KernelIdeal.Out.arg m c Cert.KernelIdeal.main_arg9)

/-- Entry by entry the two programs compute the same function of the arguments. -/
theorem answer_eq (m : (ℓ : Loc Cert.KernelIdeal.nD Cert.KernelIdeal.τ Cert.KernelIdeal.sig) → Buf (Elt Ideal) ℓ) (c : Dev Cert.KernelIdeal.nD)
    (b : Fin 8) (o : Fin 256) (p q : Fin 128) : Cert.KernelIdeal.Out.answer m c b o p q = common m c (ix4 b o p q) :=
  (Cert.ReferenceIdeal.Math.result_at _ _ _ _ _ _ _ _ _ _ b o p q).symm

/-- Kernel and reference end with the same result. -/
theorem algebraic : Cert.algebraic_KernelIdeal_ReferenceIdeal := by
  intro m ρ m' ρ' _ hag
  refine ⟨common m, (θ_run Cert.KernelIdeal.defs _ _).mono (fun r h c => ⟨funext fun i => ?_, (h c).2⟩) (Cert.KernelIdeal.Out.run m ρ),
    (θ_run Cert.ReferenceIdeal.defs _ _).mono (fun r h c => ⟨?_, (h c).2⟩) (Cert.ReferenceIdeal.Value.run m' ρ')⟩
  · have e : i = ix4 (i 0) (i 1) (i 2) (i 3) := (ix4_eta i).symm
    rw [e]
    exact ((h c).1 _ _ _ _).trans (answer_eq m c _ _ _ _)
  · obtain ⟨h0, h1, h2, h3, h4, h5, h6, h7, h8, h9⟩ := hag c
    refine (h c).1.trans ((Cert.ReferenceIdeal.Read.val_main_v195_eq (StableHlo.launchContents m' c)).trans ?_)
    exact congr (congr (congr (congr (congr (congr (congr (congr (congr (congrArg (Cert.ReferenceIdeal.Read.val_main_v195 (F := Ideal)) h0) h1) h2) h3) h4) h5) h6) h7) h8) h9

/-- The claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_ref, trivial, algebraic⟩

end Cert.Proof
